-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e_inv_sqrt_d" .f32 0x3E0293EE#32 (((Real.log 2)⁻¹ * (Real.sqrt 128)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![4096, 128]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 128]⟩ ⟨2, ![4096, 128]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 128]⟩ ⟨2, ![4096, 128]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![4096, 128]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x128 : Shape := ⟨2, ![1024, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel

variable [Facts]

def fn {F : FTy → Type} [FloatOps F] (main_arg0 : FVec F S1024x128 .f32) (main_arg1 : FVec F S1024x128 .f32) (main_arg2 : FVec F S1024x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  main_v8
-- ==== Pre_finite_ReferenceIdeal.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) (main_arg2 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S1024x128 : Shape := ⟨2, ![1024, 128]⟩
abbrev S2x1024x128 : Shape := ⟨3, ![2, 1024, 128]⟩
abbrev S6 : Shape := ⟨1, ![6]⟩
abbrev S1x1024x128 : Shape := ⟨3, ![1, 1024, 128]⟩
abbrev S_ : Shape := ⟨0, ![]⟩
abbrev S1 : Shape := ⟨1, ![1]⟩
abbrev S2x512x128 : Shape := ⟨3, ![2, 512, 128]⟩
abbrev S1024x1 : Shape := ⟨2, ![1024, 1]⟩
abbrev S512x128 : Shape := ⟨2, ![512, 128]⟩
abbrev S1024x512 : Shape := ⟨2, ![1024, 512]⟩
abbrev S1024 : Shape := ⟨1, ![1024]⟩
abbrev S1x512x128 : Shape := ⟨3, ![1, 512, 128]⟩

abbrev nBuf : Space → Nat
  | .hbm => 4
  | .vmem => 8
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S2x1024x128, .bf16⟩
  | .local _ .vmem, ⟨5, _⟩ => ⟨S2x1024x128, .bf16⟩
  | .local _ .vmem, ⟨6, _⟩ => ⟨S2x1024x128, .bf16⟩
  | .local _ .vmem, ⟨7, _⟩ => ⟨S2x1024x128, .bf16⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24 : BitVec 32 := 1#32
  let v43 : BitVec 32 := Scalar.muli v13 c1_i32_24
  let v44 : BitVec 32 := Scalar.addi c0_i32_25 v43
  v44.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27 : BitVec 32 := 1#32
  let v45 : BitVec 32 := Scalar.muli v24 c1_i32_27
  let v46 : BitVec 32 := Scalar.addi c0_i32_28 v45
  v46.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31 : BitVec 32 := 1#32
  let v47 : BitVec 32 := Scalar.muli v24 c1_i32_31
  let v48 : BitVec 32 := Scalar.addi c0_i32_32 v47
  v48.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_41 : BitVec 32 := 1#32
  let v55 : BitVec 32 := Scalar.muli v24 c1_i32_41
  let v56 : BitVec 32 := Scalar.addi c0_i32_42 v55
  v56.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_50 : BitVec 32 := 1#32
  let v63 : BitVec 32 := Scalar.muli v13 c1_i32_50
  let v64 : BitVec 32 := Scalar.addi c0_i32_51 v63
  v64.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_59 : BitVec 32 := 1#32
  let v71 : BitVec 32 := Scalar.muli v13 c1_i32_59
  let v72 : BitVec 32 := Scalar.addi c0_i32_60 v71
  v72.toNat
def k0_dev7 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_94 : BitVec 32 := 1#32
  let v117 : BitVec 32 := Scalar.muli v24 c1_i32_94
  let v118 : BitVec 32 := Scalar.addi c0_i32_95 v117
  v118.toNat
def k0_dev8 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_122 : BitVec 32 := 1#32
  let v144 : BitVec 32 := Scalar.muli v13 c1_i32_122
  let v145 : BitVec 32 := Scalar.addi c0_i32_123 v144
  v145.toNat
abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "log2e_inv_sqrt_d" => some (((Real.log 2)⁻¹ * (Real.sqrt 128)⁻¹ : ℝ) : EReal)
  | _ => none
-- ==== ReferenceIdeal.lean ====
abbrev S4096x128 : Shape := ⟨2, ![4096, 128]⟩
abbrev S128x4096 : Shape := ⟨2, ![128, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S128x4096, .f32⟩
  | .hbm, ⟨4, _⟩ => ⟨S4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Proto.lean ====
/-
  The cross-device protocol of the ring-attention kernel: four devices in a ring, each sending both halves (rows 0..511
  and 512..1023) of its rounded key/value block to both neighbours, each neighbour relaying one half onward so that the
  device opposite receives the whole block, one half from either side.

  Cells of device `c` (`nxt`, `prv` its ring neighbours), every one of ONE round:
  * the barrier, two duties of one unit: `true` paid by `nxt c`, handing `c` the buffers on `nxt c` that `c` writes (the
    whole of its from-left buffer, the low half of its diagonal buffer); `false` paid by `prv c`, handing `c` the
    buffers on `prv c` that `c` writes (the whole of its from-right buffer, the high half of its diagonal buffer);
  * six send cells: the copy's source elements come back at the share lent;
  * six receive cells: 0 and 1 the low and high half of `prv c`'s block in the from-left buffer, 2 and 3 the high and
    low half of `nxt c`'s block in the from-right buffer, 4 the low half of the opposite block relayed by `prv c`, 5 its
    high half relayed by `nxt c`.
  A device waits on its barrier owing all its copies, on receive cells 0 and 2 owing the relays (4 and 5), and on
  everything else owing nothing: barrier below receive 0..3 below receive 4, 5.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The ring protocol's resource algebra, duties named by `Bool`; -/
abbrev UB : Type := URounds (GSem nD τ sig) Bool
/-- beside the staging pipeline's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

theorem nxt3 (c : Dev nD) : nxt (nxt (nxt c)) = prv c := by revert c; decide

/-- The neighbours as a permutation of the devices. -/
def ring : Dev nD ≃ Dev nD := ⟨nxt, prv, prv_nxt, nxt_prv⟩

/-- The kernel's device chains: signals to left then right, copies 0 and 1 to the right, 2 and 3 to the left, the relay
    4 to the right, 5 to the left. -/
theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide
theorem dev4_eq (c : Dev nD) : (⟨k0_dev4 c, k0_dev4_lt c⟩ : Dev nD) = nxt c := by revert c; decide
theorem dev5_eq (c : Dev nD) : (⟨k0_dev5 c, k0_dev5_lt c⟩ : Dev nD) = prv c := by revert c; decide
theorem dev6_eq (c : Dev nD) : (⟨k0_dev6 c, k0_dev6_lt c⟩ : Dev nD) = prv c := by revert c; decide
theorem dev7_eq (c : Dev nD) : (⟨k0_dev7 c, k0_dev7_lt c⟩ : Dev nD) = nxt c := by revert c; decide
theorem dev8_eq (c : Dev nD) : (⟨k0_dev8 c, k0_dev8_lt c⟩ : Dev nD) = prv c := by revert c; decide

/-! ## The memrefs -/

/-- The block sent; what the left neighbour sends; what the right one sends; the opposite device's block. -/
abbrev B0 : Memref sig .tc .vmem S2x1024x128 .bf16 := Memref.whole cc0_scratch0
abbrev B1 : Memref sig .tc .vmem S2x1024x128 .bf16 := Memref.whole cc0_scratch1
abbrev B2 : Memref sig .tc .vmem S2x1024x128 .bf16 := Memref.whole cc0_scratch2
abbrev B3 : Memref sig .tc .vmem S2x1024x128 .bf16 := Memref.whole cc0_scratch3

/-- Rows 0..511 and rows 512..1023 of both planes. -/
abbrev loR : Rect S2x1024x128 := Rect.unit (s := S2x1024x128) ![0, 0, 0] S2x512x128.size inb_S2x1024x128_S2x512x128_0_0_0
abbrev hiR : Rect S2x1024x128 := Rect.unit (s := S2x1024x128) ![0, 512, 0] S2x512x128.size inb_S2x1024x128_S2x512x128_0_512_0

abbrev lo (M : Memref sig .tc .vmem S2x1024x128 .bf16) : Memref sig .tc .vmem S2x512x128 .bf16 := M.slice loR (fun _ => rfl)
abbrev hi (M : Memref sig .tc .vmem S2x1024x128 .bf16) : Memref sig .tc .vmem S2x512x128 .bf16 := M.slice hiR (fun _ => rfl)

/-- A memref's elements on device `c` at the share `q`, at contents `f`. -/
def pts {s : Shape} (M : Memref sig .tc .vmem s .bf16) (q : PosShare TreeShare) (c : Dev nD) (f : Buf (Elt F) (M.view.loc (c : Thread nD τ))) : sProp 𝕄 :=
  M.view.loc (c : Thread nD τ) ↦[M.view.set]{q} f

omit [FloatOps F] [Named F] in
instance pts_storable {s : Shape} (M : Memref sig .tc .vmem s .bf16) (q) (c : Dev nD) (f) : BI.Storable (upEmb : UEmb _ 𝕄) (pts (F := F) M q c f) := by
  unfold pts; infer_instance

omit [FloatOps F] [Named F] in
theorem B_set (b : Ref sig .tc) : (Memref.whole b : Memref sig .tc b.space b.ty.shape b.ty.elt).view.set = Finset.univ := View.set_whole _

/-! ## The cells -/

/-- The barrier semaphore; the send and the receive semaphores. -/
abbrev barS : Sem sig := (SemArray.scalar (sig.barrier 0 rfl) : Sems sig S_).sem
abbrev sS (i : Fin 6) : DmaSem sig := ⟨4 + i.val, Nat.lt_of_lt_of_le (Nat.add_lt_add_left i.isLt 4) (by decide)⟩
abbrev vS (i : Fin 6) : DmaSem sig := ⟨4 + (i.val + 6), Nat.lt_of_lt_of_le (Nat.add_lt_add_left (Nat.add_lt_add_right i.isLt 6) 4) (by decide)⟩

theorem sS0 : ((cc0_scratch4.slice (Rect.unit (s := S6) ![0] S1.size inb_S6_S1_0)).squeeze S_ squeezes_S1_S_).sem = sS 0 := rfl
theorem sS1 : ((cc0_scratch4.slice (Rect.unit (s := S6) ![1] S1.size inb_S6_S1_1)).squeeze S_ squeezes_S1_S_).sem = sS 1 := rfl
theorem sS2 : ((cc0_scratch4.slice (Rect.unit (s := S6) ![2] S1.size inb_S6_S1_2)).squeeze S_ squeezes_S1_S_).sem = sS 2 := rfl
theorem sS3 : ((cc0_scratch4.slice (Rect.unit (s := S6) ![3] S1.size inb_S6_S1_3)).squeeze S_ squeezes_S1_S_).sem = sS 3 := rfl
theorem sS4 : ((cc0_scratch4.slice (Rect.unit (s := S6) ![4] S1.size inb_S6_S1_4)).squeeze S_ squeezes_S1_S_).sem = sS 4 := rfl
theorem sS5 : ((cc0_scratch4.slice (Rect.unit (s := S6) ![5] S1.size inb_S6_S1_5)).squeeze S_ squeezes_S1_S_).sem = sS 5 := rfl
theorem vS0 : ((cc0_scratch5.slice (Rect.unit (s := S6) ![0] S1.size inb_S6_S1_0)).squeeze S_ squeezes_S1_S_).sem = vS 0 := rfl
theorem vS1 : ((cc0_scratch5.slice (Rect.unit (s := S6) ![1] S1.size inb_S6_S1_1)).squeeze S_ squeezes_S1_S_).sem = vS 1 := rfl
theorem vS2 : ((cc0_scratch5.slice (Rect.unit (s := S6) ![2] S1.size inb_S6_S1_2)).squeeze S_ squeezes_S1_S_).sem = vS 2 := rfl
theorem vS3 : ((cc0_scratch5.slice (Rect.unit (s := S6) ![3] S1.size inb_S6_S1_3)).squeeze S_ squeezes_S1_S_).sem = vS 3 := rfl
theorem vS4 : ((cc0_scratch5.slice (Rect.unit (s := S6) ![4] S1.size inb_S6_S1_4)).squeeze S_ squeezes_S1_S_).sem = vS 4 := rfl
theorem vS5 : ((cc0_scratch5.slice (Rect.unit (s := S6) ![5] S1.size inb_S6_S1_5)).squeeze S_ squeezes_S1_S_).sem = vS 5 := rfl

abbrev barC (c : Dev nD) : GSem nD τ sig := ((c : Thread nD τ), .reg barS)
abbrev dmaC (q : DmaSem sig) (c : Dev nD) : GSem nD τ sig := ((c : Thread nD τ), .dma q)

/-- The kernel's own twelve semaphores, as the launch indexes them; -/
abbrev osem : Fin 12 → SemLoc sig := fun k => .dma ⟨4 + k.val, Nat.lt_of_lt_of_le (Nat.add_lt_add_left k.isLt 4) (by decide)⟩
/-- with the barrier, the protocol's thirteen. -/
abbrev csem (k : Fin 13) : SemLoc sig := Fin.cases (.reg barS) osem k
abbrev kcell (ck : Dev nD × Fin 13) : GSem nD τ sig := ((ck.1 : Thread nD τ), csem ck.2)
/-- The index of a copy's send and receive cell. -/
abbrev sK (i : Fin 6) : Fin 13 := ⟨i.val + 1, by omega⟩
abbrev vK (i : Fin 6) : Fin 13 := ⟨i.val + 6 + 1, by omega⟩

/-- What one copy credits either of its cells: a half block's. -/
abbrev N : ℕ := (lo B0).view.dmaCredit
theorem N_pos : 0 < N := View.dmaCredit_pos _ (by decide)

/-! ## Contents -/

/-- The staged argument blocks of device `c`: queries, keys, values. -/
def xq (c : Dev nD) : (cc0_stg0_0 : Ref sig .tc).ty.Contents (Elt F) :=
  (win0_0.blk (0 : Fin 1)).view.read (Elt F) ((s₀ m ρ).mem ((c : Thread nD τ).loc main_arg0))
def xk (c : Dev nD) : (cc0_stg1_0 : Ref sig .tc).ty.Contents (Elt F) :=
  (win0_1.blk (0 : Fin 1)).view.read (Elt F) ((s₀ m ρ).mem ((c : Thread nD τ).loc main_arg1))
def xv (c : Dev nD) : (cc0_stg2_0 : Ref sig .tc).ty.Contents (Elt F) :=
  (win0_2.blk (0 : Fin 1)).view.read (Elt F) ((s₀ m ρ).mem ((c : Thread nD τ).loc main_arg2))

/-- Two planes stacked: the first at leading coordinate 0, the second elsewhere. -/
def stack (a b : S1x1024x128.Idx → Elt F .bf16) : S2x1024x128.Idx → Elt F .bf16 := fun i =>
  if (i 0).val = 0 then a (fun d => ⟨if d.val = 0 then 0 else (i d).val, by
      match d with
      | ⟨0, _⟩ => exact Nat.one_pos
      | ⟨1, _⟩ => exact (i 1).isLt
      | ⟨2, _⟩ => exact (i 2).isLt⟩)
  else b (fun d => ⟨if d.val = 0 then 0 else (i d).val, by
      match d with
      | ⟨0, _⟩ => exact Nat.one_pos
      | ⟨1, _⟩ => exact (i 1).isLt
      | ⟨2, _⟩ => exact (i 2).isLt⟩)

/-- The block device `c` sends: its rounded keys over its rounded values. -/
def snd (c : Dev nD) : S2x1024x128.Idx → Elt F .bf16 :=
  stack (k0_pay2 (F := F) (xk m ρ c)) (k0_pay4 (k0_pay3 (F := F) (xv m ρ c)))

/-! ## The schedule -/

/-- What `nxt c`'s signal hands `c`: its whole from-left buffer and the low half of its diagonal buffer. -/
def barPayT (c : Dev nD) : sProp 𝕄 := iprop((∃ f, pts B1 fullShare (nxt c) f) ∗ ∃ f, pts (lo B3) fullShare (nxt c) f)
/-- What `prv c`'s hands it: its whole from-right buffer and the high half of its diagonal buffer. -/
def barPayF (c : Dev nD) : sProp 𝕄 := iprop((∃ f, pts B2 fullShare (prv c) f) ∗ ∃ f, pts (hi B3) fullShare (prv c) f)

/-- The payload of the transfer semaphore `q` on device `c`. -/
def xferPay (q : ℕ) (c : Dev nD) : sProp 𝕄 := match q with
  | 4 => pts (lo B0) fullShare.left c (snd m ρ c)
  | 5 => pts (hi B0) fullShare.left c (snd m ρ c)
  | 6 => pts (hi B0) fullShare.right c (snd m ρ c)
  | 7 => pts (lo B0) fullShare.right c (snd m ρ c)
  | 8 => pts (lo B1) fullShare.left c (snd m ρ (prv c))
  | 9 => pts (hi B2) fullShare.left c (snd m ρ (nxt c))
  | 10 => pts (lo B1) fullShare c (snd m ρ (prv c))
  | 11 => pts (hi B1) fullShare c (snd m ρ (prv c))
  | 12 => pts (hi B2) fullShare c (snd m ρ (nxt c))
  | 13 => pts (lo B2) fullShare c (snd m ρ (nxt c))
  | 14 => pts (lo B3) fullShare c (snd m ρ (nxt (nxt c)))
  | 15 => pts (hi B3) fullShare c (snd m ρ (nxt (nxt c)))
  | _ => iprop(emp)

instance xferPay_storable (q : ℕ) (c : Dev nD) : BI.Storable (upEmb : UEmb _ 𝕄) (xferPay (F := F) m ρ q c) := by
  unfold xferPay; split <;> infer_instance
instance barPayT_storable (c : Dev nD) : BI.Storable (upEmb : UEmb _ 𝕄) (barPayT (F := F) c) := by unfold barPayT; infer_instance
instance barPayF_storable (c : Dev nD) : BI.Storable (upEmb : UEmb _ 𝕄) (barPayF (F := F) c) := by unfold barPayF; infer_instance

/-- The schedule: one round, round 0. -/
def rd : Rounds.Schedule (GSem nD τ sig) Bool 𝕄 where
  duties g r := if r = 0 ∧ g.1.2 = .tc then (match g.2 with | .reg _ => Finset.univ | .dma q => if 4 ≤ q.val then {false} else ∅) else ∅
  unitless _ := False
  amount g _ _ := match g.2 with | .reg _ => 1 | .dma _ => N
  payload g _ d := match g.2 with
    | .reg _ => if d then barPayT g.1.1 else barPayF g.1.1
    | .dma q => xferPay m ρ q.val g.1.1
  amount_pos g _ _ _ := by
    cases g.2 with
    | reg _ => exact Nat.one_pos
    | dma _ => exact N_pos

instance rd_payload_storable (g : GSem nD τ sig) (r : ℕ) (d : Bool) :
    BI.Storable (upEmb : UEmb _ 𝕄) ((rd (F := F) m ρ).payload g r d) := by
  show BI.Storable upEmb (match g.2 with
    | .reg _ => if d then barPayT g.1.1 else barPayF g.1.1
    | .dma q => xferPay m ρ q.val g.1.1)
  rcases g with ⟨t, sm⟩
  match sm, d with
  | .reg _, true => exact barPayT_storable _
  | .reg _, false => exact barPayF_storable _
  | .dma q, _ => exact xferPay_storable m ρ _ _

section Sched
variable (c : Dev nD)

theorem duties_bar : (rd (F := F) m ρ).duties (barC c) 0 = Finset.univ := by
  dsimp only [rd]
  rw [if_pos ⟨rfl, rfl⟩]
theorem duties_dma (q : DmaSem sig) (hq : 4 ≤ q.val) : (rd (F := F) m ρ).duties (dmaC q c) 0 = {false} := by
  dsimp only [rd]
  rw [if_pos ⟨rfl, rfl⟩]; exact if_pos hq
theorem duties_later (g : GSem nD τ sig) : ∀ r, 1 ≤ r → (rd (F := F) m ρ).duties g r = ∅ :=
  fun r hr => if_neg fun h => by omega

theorem amount_bar (d : Bool) : (rd (F := F) m ρ).amount (barC c) 0 d = 1 := rfl
theorem amount_dma (q : DmaSem sig) (d : Bool) : (rd (F := F) m ρ).amount (dmaC q c) 0 d = N := rfl

theorem expect_bar : (rd (F := F) m ρ).expect (barC c) 0 = 2 := by
  unfold Schedule.expect Schedule.amountOf
  rw [duties_bar, Finset.sum_congr rfl fun d _ => amount_bar m ρ c d, Finset.sum_const, Finset.card_univ, Fintype.card_bool, smul_eq_mul]
theorem expect_dma (q : DmaSem sig) (hq : 4 ≤ q.val) : (rd (F := F) m ρ).expect (dmaC q c) 0 = N := by
  unfold Schedule.expect Schedule.amountOf; rw [duties_dma m ρ c q hq, Finset.sum_singleton, amount_dma]

/-- The rest of the barrier's round, no duty taken: both neighbours' payloads. -/
theorem rest_bar : bigSep ((rd (F := F) m ρ).duties (barC c) 0 \ ∅) (fun d => (rd (F := F) m ρ).payload (barC c) 0 d)
    = iprop(barPayF c ∗ barPayT c) := by
  rw [Finset.sdiff_empty, duties_bar, bigSep_univ_eq_bigSepL [false, true] (by decide) (by decide), bigSepL_cons_cons, bigSepL_singleton]
  rfl
theorem rest_dma (q : DmaSem sig) (hq : 4 ≤ q.val) :
    bigSep ((rd (F := F) m ρ).duties (dmaC q c) 0 \ ∅) (fun d => (rd (F := F) m ρ).payload (dmaC q c) 0 d) = xferPay m ρ q.val c := by
  rw [Finset.sdiff_empty, duties_dma m ρ c q hq, bigSep_singleton]; rfl

end Sched

/-! ## What each device owes at launch; the levels -/

abbrev tN (i : Fin 6) (d : Dev nD) : CellTallies nD τ sig Unit := tallyAt (dmaC (vS i) d) () N

/-- What device `c` owes after each of its steps, the last one first. -/
abbrev A5 (c : Dev nD) : CellTallies nD τ sig Unit := 0 + tN 5 (prv c)
abbrev A4 (c : Dev nD) : CellTallies nD τ sig Unit := A5 c + tN 4 (nxt c)
abbrev A3 (c : Dev nD) : CellTallies nD τ sig Unit := A4 c + tN 3 (prv c)
abbrev A2 (c : Dev nD) : CellTallies nD τ sig Unit := A3 c + tN 2 (prv c)
abbrev A1 (c : Dev nD) : CellTallies nD τ sig Unit := A2 c + tN 1 (nxt c)
abbrev A0 (c : Dev nD) : CellTallies nD τ sig Unit := A1 c + tN 0 (nxt c)
abbrev Ab (c : Dev nD) : CellTallies nD τ sig Unit := A0 c + tallyAt (barC (nxt c)) () 1
/-- At launch: one unit to each neighbour's barrier, a half block to each of its six targets. -/
abbrev O₀ (c : Dev nD) : CellTallies nD τ sig Unit := Ab c + tallyAt (barC (prv c)) () 1

def L (g : GSem nD τ sig) : Finset Unit := if g.1.2 = .tc then {()} else ∅
/-- Staging and send cells at 0, barriers at 1, the first four receive cells at 2, the relays' at 3. -/
def lv (g : GSem nD τ sig) (_ : Unit) : ℕ := match g.2 with
  | .reg _ => 1
  | .dma q => if q.val < 10 then 0 else if q.val < 14 then 2 else 3

theorem L_of_ne (g : GSem nD τ sig) (h : g.1.2 ≠ .tc) : L g = ∅ := if_neg h
theorem L_tc (c : Dev nD) (sm : SemLoc sig) : L ((c : Thread nD τ), sm) = {()} := if_pos rfl

/-- Everything in `O` is owed to a core's cell of level above `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O : CellTallies nD τ sig Unit} (h : Above n O) (d : Dev nD) (sm : SemLoc sig) (a : ℕ)
    (hl : n < lv ((d : Thread nD τ), sm) ()) : Above n (O + tallyAt ((d : Thread nD τ), sm) () a) := fun g u hg => by
  rw [Pi.add_apply, Finsupp.add_apply] at hg
  rcases Nat.eq_zero_or_pos (O g u) with h0 | h0
  · rw [h0, Nat.zero_add, tallyAt_apply] at hg
    by_cases hgu : g = ((d : Thread nD τ), sm) ∧ u = ()
    · rw [hgu.1]; exact ⟨rfl, hl⟩
    · rw [if_neg hgu] at hg; exact absurd hg (Nat.lt_irrefl 0)
  · exact h g u h0

theorem above_A5 (c : Dev nD) (n : ℕ) (hn : n < 3) : Above n (A5 c) := (Above.zero n).add (prv c) (.dma (vS 5)) N hn
theorem above_A4 (c : Dev nD) (n : ℕ) (hn : n < 3) : Above n (A4 c) := (above_A5 c n hn).add (nxt c) (.dma (vS 4)) N hn
theorem above_A0 (c : Dev nD) (n : ℕ) (hn : n < 2) : Above n (A0 c) :=
  ((((above_A4 c n (by omega)).add (prv c) (.dma (vS 3)) N hn).add (prv c) (.dma (vS 2)) N hn).add (nxt c) (.dma (vS 1)) N hn).add
    (nxt c) (.dma (vS 0)) N hn
theorem above_O₀ (c : Dev nD) : Above 0 (O₀ c) := ((above_A0 c 0 (by decide)).add (nxt c) (.reg barS) 1 Nat.one_pos).add (prv c) (.reg barS) 1 Nat.one_pos

/-- A device may wait on its cell of level at most `n` when all it owes is above `n`. -/
theorem mayWait (c : Dev nD) (sm : SemLoc sig) (n : ℕ) (hn : lv ((c : Thread nD τ), sm) () ≤ n) (O : CellTallies nD τ sig Unit)
    (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hn)
    (fun g u hg => (hO g u hg).2)

end Cert.RingAttn

end
-- ==== Proof.Steps.lean ====
/-
  The protocol's steps, each stated once: a half copy to a neighbour, a wait on a transfer cell (which closes the cell),
  the two halves of a buffer, the two shares of its elements, what a landing leaves, what the two stores leave.
-/
module

public import proofs.«01_k».proof.Proof.Proto

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-! ## Halves and shares -/

theorem half_disjoint : Disjoint loR.set hiR.set :=
  Finset.disjoint_left.mpr fun i h h' => by
    have h1 := Rect.mem_set_unit.mp h ⟨1, by decide⟩
    have h2 := Rect.mem_set_unit.mp h' ⟨1, by decide⟩
    simp at h1 h2
    omega
theorem half_union : loR.set ∪ hiR.set = (Finset.univ : Finset S2x1024x128.Idx) := by
  refine Finset.eq_univ_iff_forall.mpr fun i => ?_
  have h0 := (i 0).isLt
  have h1 := (i 1).isLt
  have h2 := (i 2).isLt
  simp at h0 h1 h2
  rw [Finset.mem_union, Rect.mem_set_unit, Rect.mem_set_unit]
  by_cases h : (i 1).val < 512
  · left; intro a; fin_cases a <;> simp <;> omega
  · right; intro a; fin_cases a <;> simp <;> omega

theorem set_halves (M : Memref sig .tc .vmem S2x1024x128 .bf16) : (lo M).view.set ∪ (hi M).view.set = M.view.set := by
  show (M.view.slice loR).set ∪ (M.view.slice hiR).set = M.view.set
  rw [View.set_slice, View.set_slice, ← Finset.map_union, half_union]; rfl
theorem set_halves_disjoint (M : Memref sig .tc .vmem S2x1024x128 .bf16) : Disjoint (lo M).view.set (hi M).view.set := by
  show Disjoint (M.view.slice loR).set (M.view.slice hiR).set
  rw [View.set_slice, View.set_slice]; exact (Finset.disjoint_map _).mpr half_disjoint

/-- A buffer's elements are its low half's and its high half's. -/
theorem pts_halves (M : Memref sig .tc .vmem S2x1024x128 .bf16) (q : PosShare TreeShare) (c : Dev nD) (f : Buf (Elt F) (M.view.loc (c : Thread nD τ))) :
    (pts M q c f : sProp 𝕄) ⊣⊢ iprop(pts (lo M) q c f ∗ pts (hi M) q c f) := by
  have h := pointsTo_union (Ix := Unit) (Name := ℕ) (U := UU) (Lvl := ℕ) (ℓ := M.view.loc (c : Thread nD τ)) (q := q) (f := f) (set_halves_disjoint M)
  rw [set_halves M] at h
  exact h

/-- Two halves at whatever contents make a buffer at some. -/
theorem pts_join (M : Memref sig .tc .vmem S2x1024x128 .bf16) (q : PosShare TreeShare) (c : Dev nD) (f g : Buf (Elt F) (M.view.loc (c : Thread nD τ))) :
    iprop(pts (lo M) q c f ∗ pts (hi M) q c g) ⊢ (iprop(∃ h, pts M q c h) : sProp 𝕄) := by
  have h := pointsTo_join (Ix := Unit) (Name := ℕ) (U := UU) (Lvl := ℕ) (ℓ := M.view.loc (c : Thread nD τ)) (q := q) (f := f) (g := g) (set_halves_disjoint M)
  rw [set_halves M] at h
  unfold pts
  iintro H
  ihave H' := h $$ H
  iexists _
  iexact H'

/-- A full share is its left and its right half. -/
theorem pts_share {s : Shape} (M : Memref sig .tc .vmem s .bf16) (c : Dev nD) (f : Buf (Elt F) (M.view.loc (c : Thread nD τ))) :
    (pts M fullShare c f : sProp 𝕄) ⊣⊢ iprop(pts M fullShare.left c f ∗ pts M fullShare.right c f) :=
  pointsTo_share (PosShare.mem_left_op_right fullShare)

/-! ## What a landing leaves -/

section Land
variable (n : Dev nD) (fd fs : S2x1024x128.Idx → Elt F .bf16)

/-- A half of one buffer written with the same half of another holds the other's contents. -/
theorem land_lo01 : (pts (lo B1) fullShare n ((lo B1).view.write (Elt F) fd ((lo B0).view.read (Elt F) fs) Finset.univ) : sProp 𝕄) ⊢ pts (lo B1) fullShare n fs :=
  Entails.of_eq (pointsTo_congr fun i hi => by
    obtain ⟨x, -, rfl⟩ := Finset.mem_map.mp hi
    rw [View.write_emb_of_mem _ _ (Finset.mem_univ x)]; rfl)
theorem land_hi01 : (pts (hi B1) fullShare n ((hi B1).view.write (Elt F) fd ((hi B0).view.read (Elt F) fs) Finset.univ) : sProp 𝕄) ⊢ pts (hi B1) fullShare n fs :=
  Entails.of_eq (pointsTo_congr fun i hi => by
    obtain ⟨x, -, rfl⟩ := Finset.mem_map.mp hi
    rw [View.write_emb_of_mem _ _ (Finset.mem_univ x)]; rfl)
theorem land_hi02 : (pts (hi B2) fullShare n ((hi B2).view.write (Elt F) fd ((hi B0).view.read (Elt F) fs) Finset.univ) : sProp 𝕄) ⊢ pts (hi B2) fullShare n fs :=
  Entails.of_eq (pointsTo_congr fun i hi => by
    obtain ⟨x, -, rfl⟩ := Finset.mem_map.mp hi
    rw [View.write_emb_of_mem _ _ (Finset.mem_univ x)]; rfl)
theorem land_lo02 : (pts (lo B2) fullShare n ((lo B2).view.write (Elt F) fd ((lo B0).view.read (Elt F) fs) Finset.univ) : sProp 𝕄) ⊢ pts (lo B2) fullShare n fs :=
  Entails.of_eq (pointsTo_congr fun i hi => by
    obtain ⟨x, -, rfl⟩ := Finset.mem_map.mp hi
    rw [View.write_emb_of_mem _ _ (Finset.mem_univ x)]; rfl)
theorem land_lo13 : (pts (lo B3) fullShare n ((lo B3).view.write (Elt F) fd ((lo B1).view.read (Elt F) fs) Finset.univ) : sProp 𝕄) ⊢ pts (lo B3) fullShare n fs :=
  Entails.of_eq (pointsTo_congr fun i hi => by
    obtain ⟨x, -, rfl⟩ := Finset.mem_map.mp hi
    rw [View.write_emb_of_mem _ _ (Finset.mem_univ x)]; rfl)
theorem land_hi23 : (pts (hi B3) fullShare n ((hi B3).view.write (Elt F) fd ((hi B2).view.read (Elt F) fs) Finset.univ) : sProp 𝕄) ⊢ pts (hi B3) fullShare n fs :=
  Entails.of_eq (pointsTo_congr fun i hi => by
    obtain ⟨x, -, rfl⟩ := Finset.mem_map.mp hi
    rw [View.write_emb_of_mem _ _ (Finset.mem_univ x)]; rfl)
end Land

/-! ## What the two stores leave -/

/-- Plane 0, plane 1. -/
abbrev pl0 : Rect S2x1024x128 := Rect.unit (s := S2x1024x128) ![0, 0, 0] S1x1024x128.size inb_S2x1024x128_S1x1024x128_0_0_0
abbrev pl1 : Rect S2x1024x128 := Rect.unit (s := S2x1024x128) ![1, 0, 0] S1x1024x128.size inb_S2x1024x128_S1x1024x128_1_0_0

/-- Both planes stored, the buffer holds the one over the other whatever it held. -/
theorem stores_eq (f : S2x1024x128.Idx → Elt F .bf16) (a b : S1x1024x128.Idx → Elt F .bf16) :
    (B0.access pl1 : View sig .tc _ _ _).write (Elt F) ((B0.access pl0 : View sig .tc _ _ _).write (Elt F) f a Finset.univ) b Finset.univ = stack a b := by
  funext i
  have hi0 : (i 0).val < 2 := (i 0).isLt
  let x : S1x1024x128.Idx := fun d => ⟨if d.val = 0 then 0 else (i d).val, by
      match d with
      | ⟨0, _⟩ => exact Nat.one_pos
      | ⟨1, _⟩ => exact (i 1).isLt
      | ⟨2, _⟩ => exact (i 2).isLt⟩
  by_cases h : (i 0).val = 0
  · have e : i = (B0.access pl0 : View sig .tc _ _ _).emb x := by
      refine funext fun d => Fin.ext ?_
      match d with
      | ⟨0, _⟩ => exact h.trans rfl
      | ⟨1, _⟩ => exact (by simp [x] : (i 1).val = 0 + 1 * (x 1).val)
      | ⟨2, _⟩ => exact (by simp [x] : (i 2).val = 0 + 1 * (x 2).val)
    rw [View.write_of_not_mem, stack, if_pos h]
    · rw [show (B0.access pl0 : View sig .tc _ _ _).write (Elt F) f a Finset.univ i = (B0.access pl0 : View sig .tc _ _ _).write (Elt F) f a Finset.univ ((B0.access pl0 : View sig .tc _ _ _).emb x) from by rw [← e],
        View.write_emb_of_mem _ _ (Finset.mem_univ x)]
      rfl
    · intro hm
      obtain ⟨y, -, hy⟩ := Finset.mem_map.mp hm
      have : (i 0).val = 1 + 1 * (y 0).val := by rw [← hy]; rfl
      omega
  · have e : i = (B0.access pl1 : View sig .tc _ _ _).emb x := by
      refine funext fun d => Fin.ext ?_
      match d with
      | ⟨0, _⟩ => exact (show (i 0).val = 1 from by omega).trans rfl
      | ⟨1, _⟩ => exact (by simp [x] : (i 1).val = 0 + 1 * (x 1).val)
      | ⟨2, _⟩ => exact (by simp [x] : (i 2).val = 0 + 1 * (x 2).val)
    rw [show ∀ g : S2x1024x128.Idx → Elt F .bf16, (B0.access pl1 : View sig .tc _ _ _).write (Elt F) g b Finset.univ i = (B0.access pl1 : View sig .tc _ _ _).write (Elt F) g b Finset.univ ((B0.access pl1 : View sig .tc _ _ _).emb x) from fun g => by rw [← e],
      View.write_emb_of_mem _ _ (Finset.mem_univ x), stack, if_neg h]
    rfl

/-! ## The records and the steps -/

/-- Every cell's invariant, under the names `K` the launch allocated them at, and that every cell is at round 0. -/
def records (K : Dev nD × Fin 13 → ℕ) : sProp 𝕄 :=
  iprop((bigSep Finset.univ fun ck : Dev nD × Fin 13 => cellInv ER (rd m ρ) (K ck) (kcell ck))
    ∗ bigSep Finset.univ fun ck : Dev nD × Fin 13 => reached ER (kcell ck) 0)

instance records_persistent (K : Dev nD × Fin 13 → ℕ) : BI.Persistent (records (F := F) m ρ K) := by unfold records; infer_instance

variable (K : Dev nD × Fin 13 → ℕ)

theorem inv_at (ck : Dev nD × Fin 13) : (records m ρ K : sProp 𝕄) ⊢ cellInv ER (rd m ρ) (K ck) (kcell ck) := by
  unfold records
  iintro ⟨H, -⟩
  iapply (show (bigSep Finset.univ fun ck : Dev nD × Fin 13 => (cellInv ER (rd m ρ) (K ck) (kcell ck) : sProp 𝕄)) ⊢ cellInv ER (rd m ρ) (K ck) (kcell ck)
    from bigSep_elim (Finset.mem_univ ck))
  iexact H
theorem reached_at (ck : Dev nD × Fin 13) : (records m ρ K : sProp 𝕄) ⊢ reached ER (kcell ck) 0 := by
  unfold records
  iintro ⟨-, H⟩
  iapply (show (bigSep Finset.univ fun ck : Dev nD × Fin 13 => (reached ER (kcell ck) 0 : sProp 𝕄)) ⊢ reached ER (kcell ck) 0
    from bigSep_elim (Finset.mem_univ ck))
  iexact H

theorem kcell_s (c : Dev nD) (i : Fin 6) : kcell (c, sK i) = dmaC (sS i) c := rfl
theorem kcell_v (c : Dev nD) (i : Fin 6) : kcell (c, vK i) = dmaC (vS i) c := rfl

/-- What a device owes, under some waits of its past. -/
def ow (c : Dev nD) (O : CellTallies nD τ sig Unit) : sProp 𝕄 := iprop(∃ W, owes (c : Thread nD τ) O W)

/-- One half copy, number `i`, from `c` to `n`: it spends the source at the share lent, the destination on `n`, its two
    duties and the credit owed `n`'s receive cell, and leaves the credit to wait on its own send cell. -/
theorem send_step (i : Fin 6) (c n n' : Dev nD) (hn : n' = n) {src dst : Memref sig .tc .vmem S2x512x128 .bf16} {hsc : (dst : Memref sig (Dev.tc n' : Thread nD τ).2.kind .vmem S2x512x128 .bf16).view.ref.isScScratch = false}
    {hsrc : src.view.WordExact} {hdst : dst.view.WordExact}
    {hsem : DmaTarget.Typed .vmem (.dma (vS i)) (.remote (Dev.tc n' : Thread nD τ) (dst : Memref sig .tc .vmem S2x512x128 .bf16) (.dma (sS i)) hsc)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dst.view.loc (n : Thread nD τ)))
    (O : CellTallies nD τ sig Unit) (hN : dst.view.dmaCredit = N)
    (hpay₁ : (pts src q c fs : sProp 𝕄) ⊢ xferPay m ρ (sS i).val c)
    (hpay₂ : (pts dst fullShare n (dst.view.write (Elt F) fd (src.view.read (Elt F) fs) Finset.univ) : sProp 𝕄) ⊢ xferPay m ρ (vS i).val n) :
    iprop(records m ρ K ∗ pts src q c fs ∗ pts dst fullShare n fd ∗ ow c (O + tN i n)
        ∗ dutyTok ER (dmaC (sS i) c) 0 false ∗ dutyTok ER (dmaC (vS i) n) 0 false)
      ⊢ iprop(((cred (tallyAt (dmaC (sS i) c) () N) ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma (sS i)) hsc) (.dma (vS i)) hsrc hdst hsem) k) Q) := by
  subst hn
  unfold ow pts
  iintro ⟨#HR, Hs, Hd, ⟨%W, HO⟩, Ht, Ht'⟩ Hk
  iapply (Rounds.wp_send_pointsTo 𝒱₀ ER (rd m ρ) (c : Thread nD τ) none (κ₁ := K (c, sK i)) (κ₂ := K (n', vK i))
    (r₁ := 0) (r₂ := 0) (d₁ := false) (d₂ := false) (fs := fs) (fd := fd) (q := q)
    (by rw [duties_dma m ρ c _ (Nat.le_add_right 4 _)]; exact Finset.mem_singleton_self _)
    (by rw [duties_dma m ρ n' _ (Nat.le_add_right 4 _)]; exact Finset.mem_singleton_self _)
    () () N (show dst.view.amount (.dma (vS i)) = N from hN) (amount_dma m ρ c _ false) (amount_dma m ρ n' _ false) O rfl (W := W) hpay₁ hpay₂) $$ [Hs Hd HO Ht Ht']
  · isplitr; · iapply (inv_at m ρ K (c, sK i)); iexact HR
    isplitr; · iapply (inv_at m ρ K (n', vK i)); iexact HR
    isplitl [Hs]; · iexact Hs
    isplitl [Hd]; · iexact Hd
    isplitl [HO]; · iexact HO
    isplitl [Ht]; · iexact Ht
    isplitr; · iapply (reached_at m ρ K (c, sK i)); iexact HR
    isplitl [Ht']; · iexact Ht'
    iapply (reached_at m ρ K (n', vK i)); iexact HR
  iintro ⟨Hc, HO⟩
  iapply Hk
  isplitl [Hc]; · iexact Hc
  iexists W; iexact HO

/-- One wait on a transfer cell of its own: it spends the credit and the position, and leaves the cell's payload and its
    counter at zero. -/
theorem wait_step (kk : Fin 12) (q : DmaSem sig) (hq : q.val = 4 + kk.val) (c : Dev nD) (O : CellTallies nD τ sig Unit) (n : ℕ) (hn : lv (dmaC q c) () ≤ n) (hO : Above n O)
    {src dst : Memref sig .tc .vmem S2x512x128 .bf16} {hsrc : src.view.WordExact} {hdst : dst.view.WordExact}
    {α : Type} {Q : α → sProp 𝕄} {k : PUnit → Prog (TpuEff nD τ sig (Elt F) Λ₀ .tc) α} :
    iprop(records m ρ K ∗ levAts L lv ∗ cred (tallyAt (dmaC q c) () N) ∗ ow c O ∗ atPos ER (dmaC q c) 0 ∅ 0)
      ⊢ iprop(((ow c O ∗ semVal (dmaC q c) 0 ∗ xferPay m ρ q.val c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have h4 : 4 ≤ q.val := by omega
  have hc : kcell (c, kk.succ) = dmaC q c := by
    show ((c : Thread nD τ), SemLoc.dma _) = _
    refine congrArg (fun x : DmaSem sig => ((c : Thread nD τ), SemLoc.dma x)) (Fin.ext hq.symm)
  have hI := inv_at m ρ K (c, kk.succ)
  rw [hc] at hI
  unfold ow
  iintro ⟨#HR, #HL, Hc, ⟨%W, HO⟩, Hat⟩ Hk
  iapply (Rounds.wp_wait_rest_token 𝒱₀ ER (rd m ρ) (c : Thread nD τ) none (κ := K (c, kk.succ))
      (wpE_waitDma2_eq 𝒱₀ (c : Thread nD τ) none Set.univ) (Set.mem_univ _) () (O := O) (W := W) (R := 0) (m := 0) (T := ∅)
      (by rw [Nat.zero_add, expect_dma m ρ c q h4])) $$ [Hc HO Hat]
  · isplitr; · iapply hI; iexact HR
    isplitl [Hc]; · iexact Hc
    isplitl [HO]; · iexact HO
    isplitr; · iapply (mayWait c (.dma q) n hn O hO); iexact HL
    iexact Hat
  iintro ⟨HO, Hat, -, Hpay⟩
  ihave Hp := (Entails.of_eq (rest_dma m ρ c q h4)) $$ Hpay
  imod (Rounds.cell_close ER (rd m ρ) (Set.mem_univ (K (c, kk.succ))) (fun h => h) (R := 0 + 1) (duties_later m ρ (dmaC q c))) $$ [Hat] with Hz
  · isplitr; · iapply hI; iexact HR
    iexact Hat
  iapply Hk
  isplitl [HO]; · iexists _; iexact HO
  isplitl [Hz]; · iexact Hz
  iexact Hp

end Cert.RingAttn

end
-- ==== Proof.Body.lean ====
/-
  The kernel body run once, at a symbolic device and over any float values: from its staged blocks, its credit and its
  ghost state to the result block `outAt`, every semaphore it waited on back at zero.
-/
module

public import proofs.«01_k».proof.Proof.Steps

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What is read -/

abbrev rw : Rect S1024x128 := Rect.unit (s := S1024x128) ![0, 0] S1024x128.size inb_S1024x128_S1024x128_0_0
abbrev rLo : Rect S1024x128 := Rect.unit (s := S1024x128) ![0, 0] S512x128.size inb_S1024x128_S512x128_0_0
abbrev rHi : Rect S1024x128 := Rect.unit (s := S1024x128) ![512, 0] S512x128.size inb_S1024x128_S512x128_512_0

/-- The low and the high half of either plane. -/
abbrev p0Lo : Rect S2x1024x128 := Rect.unit (s := S2x1024x128) ![0, 0, 0] S1x512x128.size inb_S2x1024x128_S1x512x128_0_0_0
abbrev p1Lo : Rect S2x1024x128 := Rect.unit (s := S2x1024x128) ![1, 0, 0] S1x512x128.size inb_S2x1024x128_S1x512x128_1_0_0
abbrev p0Hi : Rect S2x1024x128 := Rect.unit (s := S2x1024x128) ![0, 512, 0] S1x512x128.size inb_S2x1024x128_S1x512x128_0_512_0
abbrev p1Hi : Rect S2x1024x128 := Rect.unit (s := S2x1024x128) ![1, 512, 0] S1x512x128.size inb_S2x1024x128_S1x512x128_1_512_0

/-- Rows of a block; a part of a stacked pair of blocks. -/
def rows (r : Rect S1024x128) (f : S1024x128.Idx → Elt F .f32) : r.shape.Idx → Elt F .f32 :=
  (Memref.whole cc0_stg1_0 : Memref sig .tc .vmem S1024x128 .f32).view.readAt (Elt F) r.toLoadRect f
def part (r : Rect S2x1024x128) (f : S2x1024x128.Idx → Elt F .bf16) : r.shape.Idx → Elt F .bf16 :=
  B1.view.readAt (Elt F) r.toLoadRect f

theorem sub_lo {p : Fin 3 → ℕ} {inb} (hp : p 1 = 0) : (Rect.unit (s := S2x1024x128) p S1x512x128.size inb).set ⊆ loR.set := fun i h => by
  have h1 := Rect.mem_set_unit.mp h
  have h0 := (i 0).isLt
  have h2 := (i 2).isLt
  have h11 := h1 1
  refine Rect.mem_set_unit.mpr fun a => ?_
  simp at h0 h2 h11
  fin_cases a <;> simp <;> omega
theorem sub_hi {p : Fin 3 → ℕ} {inb} (hp : p 1 = 512) : (Rect.unit (s := S2x1024x128) p S1x512x128.size inb).set ⊆ hiR.set := fun i h => by
  have h1 := Rect.mem_set_unit.mp h
  have h0 := (i 0).isLt
  have h2 := (i 2).isLt
  have h11 := h1 1
  refine Rect.mem_set_unit.mpr fun a => ?_
  simp at h0 h2 h11
  fin_cases a <;> simp <;> omega

theorem on_lo (M : Memref sig .tc .vmem S2x1024x128 .bf16) {r : Rect S2x1024x128} (h : r.set ⊆ loR.set) : M.view.setOn r.toLoadRect.set ⊆ (lo M).view.set := by
  show M.view.setOn r.set ⊆ (M.view.slice loR).set
  rw [View.set_slice]; exact Finset.map_subset_map.mpr h
theorem on_hi (M : Memref sig .tc .vmem S2x1024x128 .bf16) {r : Rect S2x1024x128} (h : r.set ⊆ hiR.set) : M.view.setOn r.toLoadRect.set ⊆ (hi M).view.set := by
  show M.view.setOn r.set ⊆ (M.view.slice hiR).set
  rw [View.set_slice]; exact Finset.map_subset_map.mpr h

theorem pts_eq {s : Shape} (M : Memref sig .tc .vmem s .bf16) (q : PosShare TreeShare) (c : Dev nD) (f : Buf (Elt F) (M.view.loc (c : Thread nD τ))) :
    (pts M q c f : sProp 𝕄) = (M.view.loc (c : Thread nD τ) ↦[M.view.set]{q} f) := rfl
theorem ow_intro (c : Dev nD) (O : CellTallies nD τ sig Unit) (W : Waits sig Unit) : (owes (c : Thread nD τ) O W : sProp 𝕄) ⊢ ow c O := by
  unfold ow; iintro H; iexists W; iexact H

/-- A load of part of a half held. -/
theorem load_lo (c : Dev nD) (M : Memref sig .tc .vmem S2x1024x128 .bf16) {r : Rect S2x1024x128} (h : r.set ⊆ loR.set) {hl : M.view.LoadsAt r.toLoadRect}
    {α : Type} {Q : α → sProp 𝕄} {k : (r.toLoadRect.shape.Idx → Elt F .bf16) → Prog (TpuEff nD τ sig (Elt F) Λ₀ .tc) α} (q : PosShare TreeShare)
    (f : Buf (Elt F) (M.view.loc (c : Thread nD τ))) :
    (pts (lo M) q c f : sProp 𝕄)
      ⊢ iprop((pts (lo M) q c f -∗ wp frame (wpE (defs₀ (F := F)) 𝒱₀ (c : Thread nD τ) none) Set.univ (k (M.view.readAt (Elt F) r.toLoadRect f)) Q)
        -∗ wp frame (wpE (defs₀ (F := F)) 𝒱₀ (c : Thread nD τ) none) Set.univ (.op (.load M r.toLoadRect hl) k) Q) :=
  wp_load 𝒱₀ (c : Thread nD τ) none Set.univ (on_lo M h)
theorem load_hi (c : Dev nD) (M : Memref sig .tc .vmem S2x1024x128 .bf16) {r : Rect S2x1024x128} (h : r.set ⊆ hiR.set) {hl : M.view.LoadsAt r.toLoadRect}
    {α : Type} {Q : α → sProp 𝕄} {k : (r.toLoadRect.shape.Idx → Elt F .bf16) → Prog (TpuEff nD τ sig (Elt F) Λ₀ .tc) α} (q : PosShare TreeShare)
    (f : Buf (Elt F) (M.view.loc (c : Thread nD τ))) :
    (pts (hi M) q c f : sProp 𝕄)
      ⊢ iprop((pts (hi M) q c f -∗ wp frame (wpE (defs₀ (F := F)) 𝒱₀ (c : Thread nD τ) none) Set.univ (k (M.view.readAt (Elt F) r.toLoadRect f)) Q)
        -∗ wp frame (wpE (defs₀ (F := F)) 𝒱₀ (c : Thread nD τ) none) Set.univ (.op (.load M r.toLoadRect hl) k) Q) :=
  wp_load 𝒱₀ (c : Thread nD τ) none Set.univ (on_hi M h)

/-! ## The result -/

section Out
variable (q k v : S1024x128.Idx → Elt F .f32) (fl fr fd : S2x1024x128.Idx → Elt F .bf16)

/-- The sum of the weights, from the queries, its own keys and the three stacked blocks received (from the left, from
    the right, from the opposite device); -/
def denOf : FVec F S1024x1 .f32 :=
  k0_pay32 (k0_pay27 (k0_pay5 q)
      (k0_pay24 (k0_pay5 q)
        (k0_pay18 (k0_pay5 q)
          (k0_pay15 (k0_pay5 q) (k0_pay12 (k0_pay5 q) k0_pay6 (k0_pay8 (rows rLo k)) (rows rHi k)) (part p0Lo fl))
          (part p0Hi fr))
        (k0_pay21 (k0_pay5 q) (part p0Hi fl)) (part p0Lo fr))
      (part p0Lo fd))
    (k0_pay31 (k0_pay5 q) (part p0Hi fd))
/-- the weighted sum of the values; -/
def numOf : FVec F S1024x128 .f32 :=
  k0_pay33 (k0_pay28 (k0_pay5 q)
      (k0_pay25 (k0_pay5 q)
        (k0_pay19 (k0_pay5 q)
          (k0_pay16 (k0_pay5 q) (k0_pay13 (k0_pay5 q) k0_pay7 (k0_pay8 (rows rLo k)) (k0_pay9 (rows rLo v)) (rows rHi k) (rows rHi v))
            (part p0Lo fl) (part p1Lo fl))
          (part p0Hi fr) (part p1Hi fr))
        (k0_pay20 (part p1Hi fl)) (k0_pay21 (k0_pay5 q) (part p0Hi fl)) (part p0Lo fr) (part p1Lo fr))
      (part p0Lo fd) (part p1Lo fd))
    (k0_pay29 (part p1Hi fd)) (k0_pay30 (k0_pay5 q) (part p0Hi fd))
/-- the block stored. -/
def outOf : FVec F S1024x128 .f32 := k0_pay1 (denOf q k fl fr fd) (numOf q k v fl fr fd)
end Out

/-- The kernel's result on device `c`. -/
def outAt (c : Dev nD) : (cc0_stg3_0 : Ref sig .tc).ty.Contents (Elt F) :=
  outOf (xq m ρ c) (xk m ρ c) (xv m ρ c) (snd m ρ (prv c)) (snd m ρ (nxt c)) (snd m ρ (nxt (nxt c)))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The tokens of the duties device `c` pays: its neighbours' barrier duties, its copies' landings, its own send cells. -/
def payToks (c : Dev nD) : sProp 𝕄 :=
  iprop(dutyTok ER (barC (prv c)) 0 true ∗ dutyTok ER (barC (nxt c)) 0 false
    ∗ dutyTok ER (dmaC (vS 0) (nxt c)) 0 false ∗ dutyTok ER (dmaC (vS 1) (nxt c)) 0 false ∗ dutyTok ER (dmaC (vS 2) (prv c)) 0 false
    ∗ dutyTok ER (dmaC (vS 3) (prv c)) 0 false ∗ dutyTok ER (dmaC (vS 4) (nxt c)) 0 false ∗ dutyTok ER (dmaC (vS 5) (prv c)) 0 false
    ∗ dutyTok ER (dmaC (sS 0) c) 0 false ∗ dutyTok ER (dmaC (sS 1) c) 0 false ∗ dutyTok ER (dmaC (sS 2) c) 0 false
    ∗ dutyTok ER (dmaC (sS 3) c) 0 false ∗ dutyTok ER (dmaC (sS 4) c) 0 false ∗ dutyTok ER (dmaC (sS 5) c) 0 false)

/-- Its positions, at round 0 of its thirteen cells. -/
def positions (c : Dev nD) : sProp 𝕄 :=
  iprop(atPos ER (barC c) 0 ∅ 0
    ∗ atPos ER (dmaC (sS 0) c) 0 ∅ 0 ∗ atPos ER (dmaC (sS 1) c) 0 ∅ 0 ∗ atPos ER (dmaC (sS 2) c) 0 ∅ 0
    ∗ atPos ER (dmaC (sS 3) c) 0 ∅ 0 ∗ atPos ER (dmaC (sS 4) c) 0 ∅ 0 ∗ atPos ER (dmaC (sS 5) c) 0 ∅ 0
    ∗ atPos ER (dmaC (vS 0) c) 0 ∅ 0 ∗ atPos ER (dmaC (vS 1) c) 0 ∅ 0 ∗ atPos ER (dmaC (vS 2) c) 0 ∅ 0
    ∗ atPos ER (dmaC (vS 3) c) 0 ∅ 0 ∗ atPos ER (dmaC (vS 4) c) 0 ∅ 0 ∗ atPos ER (dmaC (vS 5) c) 0 ∅ 0)

/-- The credit it waits with: its barrier's two units, its six landings. -/
def credits (c : Dev nD) : sProp 𝕄 :=
  iprop(cred (tallyAt (barC c) () 2)
    ∗ cred (tN 0 c) ∗ cred (tN 1 c) ∗ cred (tN 2 c) ∗ cred (tN 3 c) ∗ cred (tN 4 c) ∗ cred (tN 5 c))

def ghost (K : Dev nD × Fin 13 → ℕ) (c : Dev nD) : sProp 𝕄 := iprop(records m ρ K ∗ positions c ∗ payToks c)

/-- What device `c`'s body starts from, besides its buffers. -/
def start (c : Dev nD) : sProp 𝕄 := iprop((∃ K, ghost m ρ K c) ∗ credits c ∗ levAts L lv)

/-- The four scratch buffers, at any contents. -/
def scratch (c : Dev nD) : sProp 𝕄 :=
  iprop((∃ f, pts B0 fullShare c f) ∗ (∃ f, pts B1 fullShare c f) ∗ (∃ f, pts B2 fullShare c f) ∗ ∃ f, pts B3 fullShare c f)

/-- The thirteen counters at zero. -/
def zeros (c : Dev nD) : sProp 𝕄 :=
  iprop(semVal (barC c) 0
    ∗ semVal (dmaC (sS 0) c) 0 ∗ semVal (dmaC (sS 1) c) 0 ∗ semVal (dmaC (sS 2) c) 0
    ∗ semVal (dmaC (sS 3) c) 0 ∗ semVal (dmaC (sS 4) c) 0 ∗ semVal (dmaC (sS 5) c) 0
    ∗ semVal (dmaC (vS 0) c) 0 ∗ semVal (dmaC (vS 1) c) 0 ∗ semVal (dmaC (vS 2) c) 0
    ∗ semVal (dmaC (vS 3) c) 0 ∗ semVal (dmaC (vS 4) c) 0 ∗ semVal (dmaC (vS 5) c) 0)

def Φ₀ (c : Dev nD) : sProp 𝕄 := iprop(start m ρ c ∗ scratch c)
def Φ₁ (c : Dev nD) : sProp 𝕄 := iprop(scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xq m ρ c
    | ⟨1, _⟩ => xk m ρ c
    | ⟨2, _⟩ => xv m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 13 → ℕ)

abbrev QM : Memref sig .tc .vmem S1024x128 .f32 := Memref.whole cc0_stg0_0
abbrev KM : Memref sig .tc .vmem S1024x128 .f32 := Memref.whole cc0_stg1_0
abbrev VM : Memref sig .tc .vmem S1024x128 .f32 := Memref.whole cc0_stg2_0
abbrev OM : Memref sig .tc .vmem S1024x128 .f32 := Memref.whole cc0_stg3_0

theorem hz : (![0, 0] : Fin 2 → Nat) = fun _ => 0 := funext fun a => by fin_cases a <;> rfl
theorem read_q (f : S1024x128.Idx → Elt F .f32) : QM.view.readAt (Elt F) rw.toLoadRect f = f := Memref.readAt_unit_zero (Elt F) cc0_stg0_0 hz _ f
theorem read_k (f : S1024x128.Idx → Elt F .f32) : KM.view.readAt (Elt F) rw.toLoadRect f = f := Memref.readAt_unit_zero (Elt F) cc0_stg1_0 hz _ f
theorem read_v (f : S1024x128.Idx → Elt F .f32) : VM.view.readAt (Elt F) rw.toLoadRect f = f := Memref.readAt_unit_zero (Elt F) cc0_stg2_0 hz _ f
theorem write_o (f w : S1024x128.Idx → Elt F .f32) : (OM.access rw : View sig .tc _ _ _).write (Elt F) f w Finset.univ = w :=
  Memref.write_access_unit_zero_univ (Elt F) cc0_stg3_0 hz _ f w

theorem rows_k (r : Rect S1024x128) (f : S1024x128.Idx → Elt F .f32) : KM.view.readAt (Elt F) r.toLoadRect f = rows r f := rfl
theorem rows_v (r : Rect S1024x128) (f : S1024x128.Idx → Elt F .f32) : VM.view.readAt (Elt F) r.toLoadRect f = rows r f := rfl
theorem part_1 (r : Rect S2x1024x128) (f : S2x1024x128.Idx → Elt F .bf16) : B1.view.readAt (Elt F) r.toLoadRect f = part r f := rfl
theorem part_2 (r : Rect S2x1024x128) (f : S2x1024x128.Idx → Elt F .bf16) : B2.view.readAt (Elt F) r.toLoadRect f = part r f := rfl
theorem part_3 (r : Rect S2x1024x128) (f : S2x1024x128.Idx → Elt F .bf16) : B3.view.readAt (Elt F) r.toLoadRect f = part r f := rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ credits c ∗ levAts L lv ∗ scratch c)
    ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ c ∗ (dats m ρ 0 c).owesAt () t₀.succ ∗ stg c cc0_stg0_0 (xq m ρ c) ∗ stg c cc0_stg1_0 (xk m ρ c) ∗ stg c cc0_stg2_0 (xv m ρ c)
    ∗ stg c cc0_stg3_0 (outAt m ρ c))

/-- Each landing's payload on the device it goes to. -/
theorem xfer10 (c : Dev nD) : (xferPay m ρ 10 (nxt c) : sProp 𝕄) = pts (lo B1) fullShare (nxt c) (snd m ρ c) := by
  show pts (lo B1) fullShare (nxt c) (snd m ρ (prv (nxt c))) = _; rw [prv_nxt]
theorem xfer11 (c : Dev nD) : (xferPay m ρ 11 (nxt c) : sProp 𝕄) = pts (hi B1) fullShare (nxt c) (snd m ρ c) := by
  show pts (hi B1) fullShare (nxt c) (snd m ρ (prv (nxt c))) = _; rw [prv_nxt]
theorem xfer12 (c : Dev nD) : (xferPay m ρ 12 (prv c) : sProp 𝕄) = pts (hi B2) fullShare (prv c) (snd m ρ c) := by
  show pts (hi B2) fullShare (prv c) (snd m ρ (nxt (prv c))) = _; rw [nxt_prv]
theorem xfer13 (c : Dev nD) : (xferPay m ρ 13 (prv c) : sProp 𝕄) = pts (lo B2) fullShare (prv c) (snd m ρ c) := by
  show pts (lo B2) fullShare (prv c) (snd m ρ (nxt (prv c))) = _; rw [nxt_prv]
theorem xfer14 (c : Dev nD) : (xferPay m ρ 14 (nxt c) : sProp 𝕄) = pts (lo B3) fullShare (nxt c) (snd m ρ (prv c)) := by
  show pts (lo B3) fullShare (nxt c) (snd m ρ (nxt (nxt (nxt c)))) = _; rw [nxt3]
theorem xfer15 (c : Dev nD) : (xferPay m ρ 15 (prv c) : sProp 𝕄) = pts (hi B3) fullShare (prv c) (snd m ρ (nxt c)) := by
  show pts (hi B3) fullShare (prv c) (snd m ρ (nxt (nxt (prv c)))) = _; rw [nxt_prv]

set_option maxRecDepth 8000 in
set_option maxHeartbeats 3200000 in
/-- The body, symbolically executed from `bodyPre`, one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold bodyPre ghost positions payToks credits scratch
  iintro ⟨⟨⟨⟨#HR, ⟨HaB, HaS0, HaS1, HaS2, HaS3, HaS4, HaS5, HaV0, HaV1, HaV2, HaV3, HaV4, HaV5⟩, HtL, HtR, HtV0, HtV1, HtV2, HtV3, HtV4, HtV5, HtS0, HtS1, HtS2, HtS3, HtS4, HtS5⟩,
    ⟨HcB, HcV0, HcV1, HcV2, HcV3, HcV4, HcV5⟩, #HL, ⟨%f0, H0⟩, ⟨%f1, H1⟩, ⟨%f2, H2⟩, ⟨%f3, H3⟩⟩,
    Ho, ⟨%d0, %g0, %hg0, Hq⟩, ⟨%d1, %g1, %hg1, Hkk⟩, ⟨%d2, %g2, %hg2, Hv⟩, ⟨%d3, %g3, %hg3, Hout⟩⟩, Hk⟩
  have h0 : g0 = xq m ρ c := by rw [hg0]; unfold Dat.before; rw [if_pos (fetch_0 t₀)]; rfl
  have h1 : g1 = xk m ρ c := by rw [hg1]; unfold Dat.before; rw [if_pos (fetch_1 t₀)]; rfl
  have h2 : g2 = xv m ρ c := by rw [hg2]; unfold Dat.before; rw [if_pos (fetch_2 t₀)]; rfl
  subst h0 h1 h2
  unfold Dat.owesAt Pipeline.owesWithin
  icases Ho with ⟨%W, %hW, HO⟩
  rw [show (dats m ρ 0 c).owed t₀.castSucc = O₀ c from rfl]
  simp only [dev1_eq c, dev2_eq c]
  -- its block rounded and stacked for sending
  iapply (wp_load 𝒱₀ (c : Thread nD τ) none Set.univ (m := KM) (Finset.subset_univ _)) $$ Hkk; iintro Hkk
  rw [read_k]
  ihave H0 := (Entails.of_eq (pts_eq B0 fullShare c f0)) $$ H0
  iapply (wp_load 𝒱₀ (c : Thread nD τ) none Set.univ (m := B0) (by rw [B_set]; exact Finset.subset_univ _)) $$ H0; iintro H0
  iapply (wp_store 𝒱₀ (c : Thread nD τ) none Set.univ (m := B0) (r := pl0) (Mk := Finset.univ) (by rw [B_set]; exact Finset.subset_univ _)) $$ H0; iintro H0
  iapply (wp_load 𝒱₀ (c : Thread nD τ) none Set.univ (m := VM) (Finset.subset_univ _)) $$ Hv; iintro Hv
  rw [read_v]
  iapply (wp_load 𝒱₀ (c : Thread nD τ) none Set.univ (m := B0) (by rw [B_set]; exact Finset.subset_univ _)) $$ H0; iintro H0
  iapply (wp_store 𝒱₀ (c : Thread nD τ) none Set.univ (m := B0) (r := pl1) (Mk := Finset.univ) (by rw [B_set]; exact Finset.subset_univ _)) $$ H0; iintro H0
  rw [stores_eq]
  ihave H0 := (show ((B0.access pl1).loc (c : Thread nD τ) ↦[B0.view.set]{fullShare} stack (k0_pay2 (xk m ρ c)) (k0_pay4 (k0_pay3 (xv m ρ c))))
    ⊢ (pts B0 fullShare c (snd m ρ c) : sProp 𝕄) from BI.Entails.refl _) $$ H0
  iapply (wp_load 𝒱₀ (c : Thread nD τ) none Set.univ (m := QM) (Finset.subset_univ _)) $$ Hq; iintro Hq
  rw [read_q]
  -- the signals: to the left the from-left buffer and the diagonal's low half, to the right the other two
  ihave H3 := (pts_halves B3 fullShare c f3).1 $$ H3
  icases H3 with ⟨H3l, H3h⟩
  iapply (Rounds.wp_signal 𝒱₀ ER (rd m ρ) (c : Thread nD τ) none (dst := (prv c : Thread nD τ)) (κ := K (prv c, 0))
      (d := true) (by rw [duties_bar]; exact Finset.mem_univ _) ((amount_bar m ρ (prv c) true).trans (by decide)) () (Ab c) rfl) $$ [HO HtL H1 H3l]
  · isplitr; · iapply (inv_at m ρ K (prv c, 0)); iexact HR
    isplitl [HO]; · iexact HO
    isplitl [HtL]; · iexact HtL
    isplitl [H1 H3l]
    · iapply (show (barPayT (prv c) : sProp 𝕄) ⊢ (rd m ρ).payload (barC (prv c)) 0 true from BI.Entails.refl _)
      unfold barPayT; rw [nxt_prv]
      isplitl [H1]
      · iexists f1; iexact H1
      · iexists f3; iexact H3l
    iapply (reached_at m ρ K (prv c, 0)); iexact HR
  iintro HO
  iapply (Rounds.wp_signal 𝒱₀ ER (rd m ρ) (c : Thread nD τ) none (dst := (nxt c : Thread nD τ)) (κ := K (nxt c, 0))
      (d := false) (by rw [duties_bar]; exact Finset.mem_univ _) ((amount_bar m ρ (nxt c) false).trans (by decide)) () (A0 c) rfl) $$ [HO HtR H2 H3h]
  · isplitr; · iapply (inv_at m ρ K (nxt c, 0)); iexact HR
    isplitl [HO]; · iexact HO
    isplitl [HtR]; · iexact HtR
    isplitl [H2 H3h]
    · iapply (show (barPayF (nxt c) : sProp 𝕄) ⊢ (rd m ρ).payload (barC (nxt c)) 0 false from BI.Entails.refl _)
      unfold barPayF; rw [prv_nxt]
      isplitl [H2]
      · iexists f2; iexact H2
      · iexists f3; iexact H3h
    iapply (reached_at m ρ K (nxt c, 0)); iexact HR
  iintro HO
  -- the wait for both neighbours
  iapply (Rounds.wp_wait_rest_token 𝒱₀ ER (rd m ρ) (c : Thread nD τ) none (κ := K (c, 0))
      (wpE_semWait_eq 𝒱₀ (c : Thread nD τ) none Set.univ) (Set.mem_univ _) () (O := A0 c) (W := W) (R := 0) (m := 0) (T := ∅)
      (by rw [expect_bar]; decide)) $$ [HcB HO HaB]
  · isplitr; · iapply (inv_at m ρ K (c, 0)); iexact HR
    isplitl [HcB]; · iexact HcB
    isplitl [HO]; · iexact HO
    isplitr; · iapply (mayWait c (.reg barS) 1 (Nat.le_refl 1) (A0 c) (above_A0 c 1 (by decide))); iexact HL
    iexact HaB
  iintro ⟨HO, HaB, -, Hpay⟩
  ihave Hp := (Entails.of_eq (rest_bar m ρ c)) $$ Hpay
  imod (Rounds.cell_close ER (rd m ρ) (Set.mem_univ (K (c, 0))) (fun h => h) (R := 0 + 1) (duties_later m ρ (barC c))) $$ [HaB] with HzB
  · isplitr; · iapply (inv_at m ρ K (c, 0)); iexact HR
    iexact HaB
  unfold barPayF barPayT
  icases Hp with ⟨⟨⟨%p2, P2⟩, %p3h, P3h⟩, ⟨%n1, N1⟩, %n3l, N3l⟩
  ihave N1 := (pts_halves B1 fullShare (nxt c) n1).1 $$ N1
  icases N1 with ⟨N1l, N1h⟩
  ihave P2 := (pts_halves B2 fullShare (prv c) p2).1 $$ P2
  icases P2 with ⟨P2l, P2h⟩
  ihave H0 := (pts_halves B0 fullShare c (snd m ρ c)).1 $$ H0
  icases H0 with ⟨H0l, H0h⟩
  ihave H0l := (pts_share (lo B0) c (snd m ρ c)).1 $$ H0l
  icases H0l with ⟨H0ll, H0lr⟩
  ihave H0h := (pts_share (hi B0) c (snd m ρ c)).1 $$ H0h
  icases H0h with ⟨H0hl, H0hr⟩
  ihave HO := (ow_intro c (A0 c) _) $$ HO
  -- the four copies to the neighbours
  iapply (send_step m ρ K 0 c (nxt c) _ (dev3_eq c) (src := lo B0) (dst := lo B1) fullShare.left (snd m ρ c) n1 (A1 c) rfl
      (BI.Entails.refl _) ((land_lo01 (nxt c) n1 (snd m ρ c)).trans (Entails.of_eq (xfer10 m ρ c).symm))) $$ [H0ll N1l HO HtS0 HtV0]
  · isplitr; · iexact HR
    isplitl [H0ll]; · iexact H0ll
    isplitl [N1l]; · iexact N1l
    isplitl [HO]; · iexact HO
    isplitl [HtS0]; · iexact HtS0
    iexact HtV0
  iintro ⟨HcS0, HO⟩
  iapply (send_step m ρ K 1 c (nxt c) _ (dev4_eq c) (src := hi B0) (dst := hi B1) fullShare.left (snd m ρ c) n1 (A2 c) rfl
      (BI.Entails.refl _) ((land_hi01 (nxt c) n1 (snd m ρ c)).trans (Entails.of_eq (xfer11 m ρ c).symm))) $$ [H0hl N1h HO HtS1 HtV1]
  · isplitr; · iexact HR
    isplitl [H0hl]; · iexact H0hl
    isplitl [N1h]; · iexact N1h
    isplitl [HO]; · iexact HO
    isplitl [HtS1]; · iexact HtS1
    iexact HtV1
  iintro ⟨HcS1, HO⟩
  iapply (send_step m ρ K 2 c (prv c) _ (dev5_eq c) (src := hi B0) (dst := hi B2) fullShare.right (snd m ρ c) p2 (A3 c) rfl
      (BI.Entails.refl _) ((land_hi02 (prv c) p2 (snd m ρ c)).trans (Entails.of_eq (xfer12 m ρ c).symm))) $$ [H0hr P2h HO HtS2 HtV2]
  · isplitr; · iexact HR
    isplitl [H0hr]; · iexact H0hr
    isplitl [P2h]; · iexact P2h
    isplitl [HO]; · iexact HO
    isplitl [HtS2]; · iexact HtS2
    iexact HtV2
  iintro ⟨HcS2, HO⟩
  iapply (send_step m ρ K 3 c (prv c) _ (dev6_eq c) (src := lo B0) (dst := lo B2) fullShare.right (snd m ρ c) p2 (A4 c) rfl
      (BI.Entails.refl _) ((land_lo02 (prv c) p2 (snd m ρ c)).trans (Entails.of_eq (xfer13 m ρ c).symm))) $$ [H0lr P2l HO HtS3 HtV3]
  · isplitr; · iexact HR
    isplitl [H0lr]; · iexact H0lr
    isplitl [P2l]; · iexact P2l
    isplitl [HO]; · iexact HO
    isplitl [HtS3]; · iexact HtS3
    iexact HtV3
  iintro ⟨HcS3, HO⟩
  -- its own block
  iapply (wp_load 𝒱₀ (c : Thread nD τ) none Set.univ (m := KM) (Finset.subset_univ _)) $$ Hkk; iintro Hkk
  rw [rows_k]
  iapply (wp_load 𝒱₀ (c : Thread nD τ) none Set.univ (m := VM) (Finset.subset_univ _)) $$ Hv; iintro Hv
  rw [rows_v]
  iapply (wp_load 𝒱₀ (c : Thread nD τ) none Set.univ (m := KM) (Finset.subset_univ _)) $$ Hkk; iintro Hkk
  rw [rows_k]
  iapply (wp_load 𝒱₀ (c : Thread nD τ) none Set.univ (m := VM) (Finset.subset_univ _)) $$ Hv; iintro Hv
  rw [rows_v]
  -- the low half from the left, relayed to the right
  iapply (wait_step m ρ K 6 (vS 0) rfl c (A4 c) 2 (Nat.le_refl _) (above_A4 c 2 (by decide))) $$ [HcV0 HO HaV0]
  · isplitr; · iexact HR
    isplitr; · iexact HL
    isplitl [HcV0]; · iexact HcV0
    isplitl [HO]; · iexact HO
    iexact HaV0
  iintro ⟨HO, HzV0, L1l⟩
  ihave L1l := (show (xferPay m ρ (vS 0).val c : sProp 𝕄) ⊢ pts (lo B1) fullShare c (snd m ρ (prv c)) from BI.Entails.refl _) $$ L1l
  ihave L1l := (pts_share (lo B1) c (snd m ρ (prv c))).1 $$ L1l
  icases L1l with ⟨L1ll, L1lr⟩
  iapply (send_step m ρ K 4 c (nxt c) _ (dev7_eq c) (src := lo B1) (dst := lo B3) fullShare.left (snd m ρ (prv c)) n3l (A5 c) rfl
      (BI.Entails.refl _) ((land_lo13 (nxt c) n3l (snd m ρ (prv c))).trans (Entails.of_eq (xfer14 m ρ c).symm))) $$ [L1ll N3l HO HtS4 HtV4]
  · isplitr; · iexact HR
    isplitl [L1ll]; · iexact L1ll
    isplitl [N3l]; · iexact N3l
    isplitl [HO]; · iexact HO
    isplitl [HtS4]; · iexact HtS4
    iexact HtV4
  iintro ⟨HcS4, HO⟩
  iapply (load_lo c B1 (r := p0Lo) (sub_lo rfl) fullShare.right (snd m ρ (prv c))) $$ L1lr; iintro L1lr
  rw [part_1]
  iapply (load_lo c B1 (r := p1Lo) (sub_lo rfl) fullShare.right (snd m ρ (prv c))) $$ L1lr; iintro L1lr
  rw [part_1]
  -- the high half from the right, relayed to the left
  iapply (wait_step m ρ K 8 (vS 2) rfl c (A5 c) 2 (Nat.le_refl _) (above_A5 c 2 (by decide))) $$ [HcV2 HO HaV2]
  · isplitr; · iexact HR
    isplitr; · iexact HL
    isplitl [HcV2]; · iexact HcV2
    isplitl [HO]; · iexact HO
    iexact HaV2
  iintro ⟨HO, HzV2, R2h⟩
  ihave R2h := (show (xferPay m ρ (vS 2).val c : sProp 𝕄) ⊢ pts (hi B2) fullShare c (snd m ρ (nxt c)) from BI.Entails.refl _) $$ R2h
  ihave R2h := (pts_share (hi B2) c (snd m ρ (nxt c))).1 $$ R2h
  icases R2h with ⟨R2hl, R2hr⟩
  iapply (send_step m ρ K 5 c (prv c) _ (dev8_eq c) (src := hi B2) (dst := hi B3) fullShare.left (snd m ρ (nxt c)) p3h (0) rfl
      (BI.Entails.refl _) ((land_hi23 (prv c) p3h (snd m ρ (nxt c))).trans (Entails.of_eq (xfer15 m ρ c).symm))) $$ [R2hl P3h HO HtS5 HtV5]
  · isplitr; · iexact HR
    isplitl [R2hl]; · iexact R2hl
    isplitl [P3h]; · iexact P3h
    isplitl [HO]; · iexact HO
    isplitl [HtS5]; · iexact HtS5
    iexact HtV5
  iintro ⟨HcS5, HO⟩
  iapply (load_hi c B2 (r := p0Hi) (sub_hi rfl) fullShare.right (snd m ρ (nxt c))) $$ R2hr; iintro R2hr
  rw [part_2]
  iapply (load_hi c B2 (r := p1Hi) (sub_hi rfl) fullShare.right (snd m ρ (nxt c))) $$ R2hr; iintro R2hr
  rw [part_2]
  -- the other halves from either side
  iapply (wait_step m ρ K 7 (vS 1) rfl c (0) 2 (Nat.le_refl _) (Above.zero 2)) $$ [HcV1 HO HaV1]
  · isplitr; · iexact HR
    isplitr; · iexact HL
    isplitl [HcV1]; · iexact HcV1
    isplitl [HO]; · iexact HO
    iexact HaV1
  iintro ⟨HO, HzV1, L1h⟩
  ihave L1h := (show (xferPay m ρ (vS 1).val c : sProp 𝕄) ⊢ pts (hi B1) fullShare c (snd m ρ (prv c)) from BI.Entails.refl _) $$ L1h
  iapply (load_hi c B1 (r := p0Hi) (sub_hi rfl) fullShare (snd m ρ (prv c))) $$ L1h; iintro L1h
  rw [part_1]
  iapply (load_hi c B1 (r := p1Hi) (sub_hi rfl) fullShare (snd m ρ (prv c))) $$ L1h; iintro L1h
  rw [part_1]
  iapply (wait_step m ρ K 9 (vS 3) rfl c (0) 2 (Nat.le_refl _) (Above.zero 2)) $$ [HcV3 HO HaV3]
  · isplitr; · iexact HR
    isplitr; · iexact HL
    isplitl [HcV3]; · iexact HcV3
    isplitl [HO]; · iexact HO
    iexact HaV3
  iintro ⟨HO, HzV3, R2l⟩
  ihave R2l := (show (xferPay m ρ (vS 3).val c : sProp 𝕄) ⊢ pts (lo B2) fullShare c (snd m ρ (nxt c)) from BI.Entails.refl _) $$ R2l
  iapply (load_lo c B2 (r := p0Lo) (sub_lo rfl) fullShare (snd m ρ (nxt c))) $$ R2l; iintro R2l
  rw [part_2]
  iapply (load_lo c B2 (r := p1Lo) (sub_lo rfl) fullShare (snd m ρ (nxt c))) $$ R2l; iintro R2l
  rw [part_2]
  -- the opposite device's block
  iapply (wait_step m ρ K 10 (vS 4) rfl c (0) 3 (Nat.le_refl _) (Above.zero 3)) $$ [HcV4 HO HaV4]
  · isplitr; · iexact HR
    isplitr; · iexact HL
    isplitl [HcV4]; · iexact HcV4
    isplitl [HO]; · iexact HO
    iexact HaV4
  iintro ⟨HO, HzV4, D3l⟩
  ihave D3l := (show (xferPay m ρ (vS 4).val c : sProp 𝕄) ⊢ pts (lo B3) fullShare c (snd m ρ (nxt (nxt c))) from BI.Entails.refl _) $$ D3l
  iapply (load_lo c B3 (r := p0Lo) (sub_lo rfl) fullShare (snd m ρ (nxt (nxt c)))) $$ D3l; iintro D3l
  rw [part_3]
  iapply (load_lo c B3 (r := p1Lo) (sub_lo rfl) fullShare (snd m ρ (nxt (nxt c)))) $$ D3l; iintro D3l
  rw [part_3]
  iapply (wait_step m ρ K 11 (vS 5) rfl c (0) 3 (Nat.le_refl _) (Above.zero 3)) $$ [HcV5 HO HaV5]
  · isplitr; · iexact HR
    isplitr; · iexact HL
    isplitl [HcV5]; · iexact HcV5
    isplitl [HO]; · iexact HO
    iexact HaV5
  iintro ⟨HO, HzV5, D3h⟩
  ihave D3h := (show (xferPay m ρ (vS 5).val c : sProp 𝕄) ⊢ pts (hi B3) fullShare c (snd m ρ (nxt (nxt c))) from BI.Entails.refl _) $$ D3h
  iapply (load_hi c B3 (r := p0Hi) (sub_hi rfl) fullShare (snd m ρ (nxt (nxt c)))) $$ D3h; iintro D3h
  rw [part_3]
  iapply (load_hi c B3 (r := p1Hi) (sub_hi rfl) fullShare (snd m ρ (nxt (nxt c)))) $$ D3h; iintro D3h
  rw [part_3]
  -- its own copies' sources back
  iapply (wait_step m ρ K 0 (sS 0) rfl c (0) 0 (Nat.zero_le _) (Above.zero 0)) $$ [HcS0 HO HaS0]
  · isplitr; · iexact HR
    isplitr; · iexact HL
    isplitl [HcS0]; · iexact HcS0
    isplitl [HO]; · iexact HO
    iexact HaS0
  iintro ⟨HO, HzS0, H0ll⟩
  ihave H0ll := (show (xferPay m ρ (sS 0).val c : sProp 𝕄) ⊢ pts (lo B0) fullShare.left c (snd m ρ c) from BI.Entails.refl _) $$ H0ll
  iapply (wait_step m ρ K 1 (sS 1) rfl c (0) 0 (Nat.zero_le _) (Above.zero 0)) $$ [HcS1 HO HaS1]
  · isplitr; · iexact HR
    isplitr; · iexact HL
    isplitl [HcS1]; · iexact HcS1
    isplitl [HO]; · iexact HO
    iexact HaS1
  iintro ⟨HO, HzS1, H0hl⟩
  ihave H0hl := (show (xferPay m ρ (sS 1).val c : sProp 𝕄) ⊢ pts (hi B0) fullShare.left c (snd m ρ c) from BI.Entails.refl _) $$ H0hl
  iapply (wait_step m ρ K 2 (sS 2) rfl c (0) 0 (Nat.zero_le _) (Above.zero 0)) $$ [HcS2 HO HaS2]
  · isplitr; · iexact HR
    isplitr; · iexact HL
    isplitl [HcS2]; · iexact HcS2
    isplitl [HO]; · iexact HO
    iexact HaS2
  iintro ⟨HO, HzS2, H0hr⟩
  ihave H0hr := (show (xferPay m ρ (sS 2).val c : sProp 𝕄) ⊢ pts (hi B0) fullShare.right c (snd m ρ c) from BI.Entails.refl _) $$ H0hr
  iapply (wait_step m ρ K 3 (sS 3) rfl c (0) 0 (Nat.zero_le _) (Above.zero 0)) $$ [HcS3 HO HaS3]
  · isplitr; · iexact HR
    isplitr; · iexact HL
    isplitl [HcS3]; · iexact HcS3
    isplitl [HO]; · iexact HO
    iexact HaS3
  iintro ⟨HO, HzS3, H0lr⟩
  ihave H0lr := (show (xferPay m ρ (sS 3).val c : sProp 𝕄) ⊢ pts (lo B0) fullShare.right c (snd m ρ c) from BI.Entails.refl _) $$ H0lr
  iapply (wait_step m ρ K 4 (sS 4) rfl c (0) 0 (Nat.zero_le _) (Above.zero 0)) $$ [HcS4 HO HaS4]
  · isplitr; · iexact HR
    isplitr; · iexact HL
    isplitl [HcS4]; · iexact HcS4
    isplitl [HO]; · iexact HO
    iexact HaS4
  iintro ⟨HO, HzS4, L1ll⟩
  ihave L1ll := (show (xferPay m ρ (sS 4).val c : sProp 𝕄) ⊢ pts (lo B1) fullShare.left c (snd m ρ (prv c)) from BI.Entails.refl _) $$ L1ll
  iapply (wait_step m ρ K 5 (sS 5) rfl c (0) 0 (Nat.zero_le _) (Above.zero 0)) $$ [HcS5 HO HaS5]
  · isplitr; · iexact HR
    isplitr; · iexact HL
    isplitl [HcS5]; · iexact HcS5
    isplitl [HO]; · iexact HO
    iexact HaS5
  iintro ⟨HO, HzS5, R2hl⟩
  ihave R2hl := (show (xferPay m ρ (sS 5).val c : sProp 𝕄) ⊢ pts (hi B2) fullShare.left c (snd m ρ (nxt c)) from BI.Entails.refl _) $$ R2hl
  -- the buffers whole again
  ihave H0l := (pts_share (lo B0) c (snd m ρ c)).2 $$ [H0ll H0lr]
  · isplitl [H0ll] <;> iassumption
  ihave H0h := (pts_share (hi B0) c (snd m ρ c)).2 $$ [H0hl H0hr]
  · isplitl [H0hl] <;> iassumption
  ihave L1l := (pts_share (lo B1) c (snd m ρ (prv c))).2 $$ [L1ll L1lr]
  · isplitl [L1ll] <;> iassumption
  ihave R2h := (pts_share (hi B2) c (snd m ρ (nxt c))).2 $$ [R2hl R2hr]
  · isplitl [R2hl] <;> iassumption
  ihave H0 := (pts_join B0 fullShare c (snd m ρ c) (snd m ρ c)) $$ [H0l H0h]
  · isplitl [H0l] <;> iassumption
  ihave H1 := (pts_join B1 fullShare c (snd m ρ (prv c)) (snd m ρ (prv c))) $$ [L1l L1h]
  · isplitl [L1l] <;> iassumption
  ihave H2 := (pts_join B2 fullShare c (snd m ρ (nxt c)) (snd m ρ (nxt c))) $$ [R2l R2h]
  · isplitl [R2l] <;> iassumption
  ihave H3 := (pts_join B3 fullShare c (snd m ρ (nxt (nxt c))) (snd m ρ (nxt (nxt c)))) $$ [D3l D3h]
  · isplitl [D3l] <;> iassumption
  -- the result stored
  iapply (wp_load 𝒱₀ (c : Thread nD τ) none Set.univ (m := OM) (Finset.subset_univ _)) $$ Hout; iintro Hout
  iapply (wp_store 𝒱₀ (c : Thread nD τ) none Set.univ (m := OM) (r := rw) (Mk := Finset.univ) (Finset.subset_univ _)) $$ Hout; iintro Hout
  rw [write_o, wp_ret]; imodintro
  iapply Hk
  unfold bodyPost Φ₁ scratch zeros ow Dat.owesAt Pipeline.owesWithin
  rw [show (dats m ρ 0 c).owed t₀.succ = 0 from rfl]
  icases HO with ⟨%W', HO⟩
  isplitl [H0 H1 H2 H3 HzB HzS0 HzS1 HzS2 HzS3 HzS4 HzS5 HzV0 HzV1 HzV2 HzV3 HzV4 HzV5]
  · isplitl [H0 H1 H2 H3]
    · isplitl [H0]; · iexact H0
      isplitl [H1]; · iexact H1
      isplitl [H2] <;> iassumption
    isplitl [HzB]; · iexact HzB
    isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzV0]; · iexact HzV0
    isplitl [HzV1]; · iexact HzV1
    isplitl [HzV2]; · iexact HzV2
    isplitl [HzV3]; · iexact HzV3
    isplitl [HzV4] <;> iassumption
  isplitl [HO]
  · iexists W'
    isplitr; · ipureintro; exact fun _ _ => Or.inl trivial
    iexact HO
  isplitl [Hq]
  · iexists _; isplitr; · (ipureintro; rfl)
    iexact Hq
  isplitl [Hkk]
  · iexists _; isplitr; · (ipureintro; rfl)
    iexact Hkk
  isplitl [Hv]
  · iexists _; isplitr; · (ipureintro; rfl)
    iexact Hv
  iexists _; isplitr; · (ipureintro; rfl)
  iexact Hout

end Body

end Cert.RingAttn

end
-- ==== Proof.Run.lean ====
/-
  The launch: the protocol's ghost state dealt around the ring, the credit each device waits with, and the run of @main
  at four devices over any float values.
-/
module

public import proofs.«01_k».proof.Proof.Body
public import Idealize.ShloMosaic.Lib.Pipeline.CollectiveSegs

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The body obligation -/

def bodyPre' (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

set_option maxRecDepth 8000 in
/-- The pipeline's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5) (fun _ => bodyPost m ρ c)
  unfold bodyPre' Φ₀ start
  iintro ⟨⟨⟨⟨%K, Hg⟩, Hcr, HL⟩, Hscr⟩, Ho, Hx0, Hx1, Hx2, Hout⟩
  iapply (sound_body m ρ K c fun _ => bodyPost m ρ c)
  unfold bodyPre
  isplitr []
  · isplitl [Hg Hcr HL Hscr]
    · isplitl [Hg]; · iexact Hg
      isplitl [Hcr]; · iexact Hcr
      isplitl [HL]; · iexact HL
      iexact Hscr
    isplitl [Ho]; · iexact Ho
    isplitl [Hx0]; · iexact Hx0
    isplitl [Hx1]; · iexact Hx1
    isplitl [Hx2] <;> iassumption
  · iintro H; iexact H

/-! ## The ghost state dealt -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 13 → GSem nD τ sig) := by
  rintro ⟨c, k⟩ ⟨c', k'⟩ h
  have h1 : c = c' := congrArg (fun g : GSem nD τ sig => g.1.1) h
  subst h1
  rw [csem_injective (show csem k = csem k' from congrArg Prod.snd h)]
def ringCells : Finset (GSem nD τ sig) := Finset.univ.map ⟨kcell, kcell_injective⟩

/-- The duties minted of one device's cells: the barrier's two, then one of each transfer cell. -/
abbrev tk (j : Fin 14) : Fin 13 := ⟨j.val - 1, by omega⟩
abbrev tb (j : Fin 14) : Bool := decide (j.val = 1)
abbrev tokOf (cj : Dev nD × Fin 14) : GSem nD τ sig × ℕ × Bool := (kcell (cj.1, tk cj.2), 0, tb cj.2)
theorem tkb_injective : Function.Injective (fun j : Fin 14 => (tk j, tb j)) := by decide
theorem tokOf_injective : Function.Injective (tokOf : Dev nD × Fin 14 → GSem nD τ sig × ℕ × Bool) := by
  rintro ⟨c, j⟩ ⟨c', j'⟩ h
  have h1 := kcell_injective (congrArg Prod.fst h)
  have hc : c = c' := congrArg Prod.fst h1
  have hj : j = j' := tkb_injective (Prod.ext (congrArg Prod.snd h1) (congrArg (fun x : GSem nD τ sig × ℕ × Bool => x.2.2) h))
  rw [hc, hj]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barC c) 0 false ∗ dutyTok ER (barC c) 0 true
    ∗ dutyTok ER (dmaC (sS 0) c) 0 false ∗ dutyTok ER (dmaC (sS 1) c) 0 false ∗ dutyTok ER (dmaC (sS 2) c) 0 false
    ∗ dutyTok ER (dmaC (sS 3) c) 0 false ∗ dutyTok ER (dmaC (sS 4) c) 0 false ∗ dutyTok ER (dmaC (sS 5) c) 0 false
    ∗ dutyTok ER (dmaC (vS 0) c) 0 false ∗ dutyTok ER (dmaC (vS 1) c) 0 false ∗ dutyTok ER (dmaC (vS 2) c) 0 false
    ∗ dutyTok ER (dmaC (vS 3) c) 0 false ∗ dutyTok ER (dmaC (vS 4) c) 0 false ∗ dutyTok ER (dmaC (vS 5) c) 0 false)

/-- What the launch deals device `c`; -/
def G (c : Dev nD) : sProp 𝕄 :=
  iprop((bigSep Finset.univ fun k : Fin 13 => roundState ER (rd m ρ) (kcell (c, k)) 0)
    ∗ (bigSep Finset.univ fun k : Fin 13 => iprop(atPos ER (kcell (c, k)) 0 ∅ 0 ∗ reached ER (kcell (c, k)) 0)) ∗ toks c)
/-- what the global step makes of it. -/
def G' (c : Dev nD) : sProp 𝕄 := iprop(∃ K, ghost m ρ K c)

theorem bigSep_fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
theorem bigSep_fin14 (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin14]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own twelve; -/
theorem ownSems0_eq (c : Dev nD) : (Pipeline.ownSems0 (Ix := Unit) (Name := ℕ) (U := UU) (Lvl := ℕ) (Val := Elt F) (τ := τ) osem c : sProp 𝕄)
    = iprop(semVal (dmaC (sS 0) c) 0 ∗ semVal (dmaC (sS 1) c) 0 ∗ semVal (dmaC (sS 2) c) 0
    ∗ semVal (dmaC (sS 3) c) 0 ∗ semVal (dmaC (sS 4) c) 0 ∗ semVal (dmaC (sS 5) c) 0
    ∗ semVal (dmaC (vS 0) c) 0 ∗ semVal (dmaC (vS 1) c) 0 ∗ semVal (dmaC (vS 2) c) 0
    ∗ semVal (dmaC (vS 3) c) 0 ∗ semVal (dmaC (vS 4) c) 0 ∗ semVal (dmaC (vS 5) c) 0) := by
  rw [Pipeline.ownSems0_eq_of_list c osem [0, 1, 2, 3, 4, 5, 6, 7, 8, 9, 10, 11] (by decide) (by decide)]; rfl
/-- the barrier semaphore the launch's one unscoped semaphore. -/
theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, bigSep_fin13]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt around the ring: each landing's and each barrier duty's to the device that pays it. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barC c) 0 false : sProp 𝕄)),
    bigSep_univ_equiv ring.symm (fun c : Dev nD => (dutyTok ER (barC c) 0 true : sProp 𝕄)),
    bigSep_univ_equiv ring (fun c : Dev nD => (dutyTok ER (dmaC (vS 0) c) 0 false : sProp 𝕄)),
    bigSep_univ_equiv ring (fun c : Dev nD => (dutyTok ER (dmaC (vS 1) c) 0 false : sProp 𝕄)),
    bigSep_univ_equiv ring.symm (fun c : Dev nD => (dutyTok ER (dmaC (vS 2) c) 0 false : sProp 𝕄)),
    bigSep_univ_equiv ring.symm (fun c : Dev nD => (dutyTok ER (dmaC (vS 3) c) 0 false : sProp 𝕄)),
    bigSep_univ_equiv ring (fun c : Dev nD => (dutyTok ER (dmaC (vS 4) c) 0 false : sProp 𝕄)),
    bigSep_univ_equiv ring.symm (fun c : Dev nD => (dutyTok ER (dmaC (vS 5) c) 0 false : sProp 𝕄))]
  iintro ⟨HF, HT, S0, S1, S2, S3, S4, S5, V0, V1, V2, V3, V4, V5⟩
  isplitl [HT]; · iexact HT
  isplitl [HF]; · iexact HF
  isplitl [V0]; · iexact V0
  isplitl [V1]; · iexact V1
  isplitl [V2]; · iexact V2
  isplitl [V3]; · iexact V3
  isplitl [V4]; · iexact V4
  isplitl [V5]; · iexact V5
  isplitl [S0]; · iexact S0
  isplitl [S1]; · iexact S1
  isplitl [S2]; · iexact S2
  isplitl [S3]; · iexact S3
  isplitl [S4] <;> iassumption

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 13 → ℕ) (c : Dev nD) : iprop(records m ρ K ∗ positions c ∗ payToks c) ⊢ G' m ρ c := by
  unfold G' ghost
  iintro H
  iexists K
  iexact H

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 13 => iprop(∃ κ : ℕ, cellInv ER (rd m ρ) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 13 => (atPos ER (kcell (c, k)) 0 ∅ 0 : sProp 𝕄)) payToks).symm).trans
      (bigSep_mono fun c _ => show _ ⊢ iprop(positions c ∗ payToks c) from Entails.of_eq (by unfold positions; rw [bigSep_fin13]; rfl)))
    isplitl [Hat]; · iexact Hat
    iexact Htk

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- The credit device `c` waits with. -/
abbrev T₀ (c : Dev nD) : CellTallies nD τ sig Unit :=
  tallyAt (barC c) () 2 + (tN 0 c + (tN 1 c + (tN 2 c + (tN 3 c + (tN 4 c + tN 5 c)))))

/-- Summed over the devices, what is owed is what is waited with. -/
theorem owed_sum : (∑ d, O₀ d) = ∑ d, T₀ d := by
  have hn (f : Dev nD → CellTallies nD τ sig Unit) : (∑ d, f (nxt d)) = ∑ d, f d := Equiv.sum_comp ring f
  have hp (f : Dev nD → CellTallies nD τ sig Unit) : (∑ d, f (prv d)) = ∑ d, f d := Equiv.sum_comp ring.symm f
  have h2 : (∑ d : Dev nD, (tallyAt (barC d) () 2 : CellTallies nD τ sig Unit)) = (∑ d : Dev nD, tallyAt (barC d) () 1) + ∑ d : Dev nD, tallyAt (barC d) () 1 := by
    rw [← Finset.sum_add_distrib]; exact Finset.sum_congr rfl fun d _ => (tallyAt_add _ _ 1 1).symm
  simp only [Finset.sum_add_distrib, zero_add]
  rw [hn (fun d => tallyAt (barC d) () 1), hp (fun d => tallyAt (barC d) () 1), hn (tN 0), hn (tN 1), hp (tN 2), hp (tN 3), hn (tN 4), hp (tN 5), h2]
  abel

theorem T₀_own (d : Dev nD) (g : GSem nD τ sig) (h : T₀ d g ≠ 0) : g.1 = (d.tc : Thread nD τ) := by
  by_contra hne
  refine h ?_
  have hz (sm : SemLoc sig) (a : ℕ) : (tallyAt ((d : Thread nD τ), sm) () a : CellTallies nD τ sig Unit) g = 0 :=
    tallyAt_ne_cell (fun e => hne (congrArg Prod.fst e)) _ _
  simp only [Pi.add_apply, hz, add_zero]

theorem creds (c : Dev nD) : (Pipeline.launchCred O₀ c : sProp 𝕄) ⊢ credits c := by
  rw [Pipeline.launchCred_of_sum O₀ T₀ owed_sum T₀_own c]
  unfold credits
  have h (a b : CellTallies nD τ sig Unit) : (cred (a + b) : sProp 𝕄) = iprop(cred a ∗ cred b) := BI.Entails.antisymm (cred_add a b).1 (cred_add a b).2
  rw [h, h, h, h, h, h]

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem pts_B0 (c : Dev nD) (f : Buf (Elt F) ((c : Thread nD τ).loc cc0_scratch0)) :
    (pts B0 fullShare c f : sProp 𝕄) = (((c : Thread nD τ).loc cc0_scratch0) ↦{fullShare} f) := by
  unfold pts; rw [show B0.view.set = Finset.univ from View.set_whole _]
theorem pts_B1 (c : Dev nD) (f : Buf (Elt F) ((c : Thread nD τ).loc cc0_scratch1)) :
    (pts B1 fullShare c f : sProp 𝕄) = (((c : Thread nD τ).loc cc0_scratch1) ↦{fullShare} f) := by
  unfold pts; rw [show B1.view.set = Finset.univ from View.set_whole _]
theorem pts_B2 (c : Dev nD) (f : Buf (Elt F) ((c : Thread nD τ).loc cc0_scratch2)) :
    (pts B2 fullShare c f : sProp 𝕄) = (((c : Thread nD τ).loc cc0_scratch2) ↦{fullShare} f) := by
  unfold pts; rw [show B2.view.set = Finset.univ from View.set_whole _]
theorem pts_B3 (c : Dev nD) (f : Buf (Elt F) ((c : Thread nD τ).loc cc0_scratch3)) :
    (pts B3 fullShare c f : sProp 𝕄) = (((c : Thread nD τ).loc cc0_scratch3) ↦{fullShare} f) := by
  unfold pts; rw [show B3.view.set = Finset.univ from View.set_whole _]
theorem scratch_eq (c : Dev nD) : (scratch c : sProp 𝕄) = Pipeline.scopedRest cfg0.spec c := by
  refine Eq.trans ?_ (scopedRest0_eq c).symm
  unfold scratch
  exact congrArg₂ _ (congrArg _ (funext fun f => pts_B0 c f)) (congrArg₂ _ (congrArg _ (funext fun f => pts_B1 c f))
    (congrArg₂ _ (congrArg _ (funext fun f => pts_B2 c f)) (congrArg _ (funext fun f => pts_B3 c f))))

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scratch_eq, ownSems0_eq, unscopedSems0_eq]
  unfold Φ₁ zeros
  iintro ⟨Hr, HB, Hz⟩
  isplitl [HB]; · iexact HB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait c _ 0 (by fin_cases w <;> fin_cases s <;> exact Nat.le_refl 0) _ (by
      rcases t with ⟨_ | _, ht⟩
      · exact above_O₀ c
      · exact Above.zero 0)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Four devices, any float values, any memory with zero counters: every weakly fair execution of @main — the handshake
    with both neighbours, the four copies, the two relays — terminates, with each device's arrays at the computed contents
    and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument array after the run holds what it held. -/
theorem finalA_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

end Cert.RingAttn

end
-- ==== Proof.Frames.lean ====
/-
  The frames of the three programs: each runs, leaves its arguments as they were, and ends with every counter at zero.
-/
module

public import proofs.«01_k».proof.Proof.Run
public import proofs.«01_k».proof.Defs
public import proofs.«01_k».proof.Proof.Gen.Kernel
public import proofs.«01_k».proof.Proof.Gen.ReferenceIdeal.Run
public import Idealize.ShloMosaic.Lib.Quiescent

@[expose] public section

noncomputable section

namespace Cert.RingAttn

open Idealize.ShloMosaic Idealize.ShloMosaic.TcCoe Idealize.SL.Sem

section Args
open Cert.KernelIdeal Cert.KernelIdeal.Gen
variable {F : FTy → Type} [FloatOps F] [Named F] (m : (ℓ : Loc nD τ sig) → Buf (Elt F) ℓ) (ρ : Dev nD → PrngReg)

/-- The run read at the arguments: each holds what it held. -/
theorem args_of_QC {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(h c 0).trans (finalA_in m ρ c 0 rfl), (h c 1).trans (finalA_in m ρ c 1 rfl), (h c 2).trans (finalA_in m ρ c 2 rfl)⟩

end Args

/-- The idealized program's frame, at the ideal floats. -/
theorem frame_kernelIdeal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run (Cert.KernelIdeal.defs (F := Ideal)) _ _).mono (fun _ h => ⟨args_of_QC m g h.1, h.2⟩) (run_main (F := Ideal) m g)

/-! ### The kernel as printed: the idealized program with its named constant at the number written -/

/-- At the machine floats, a named constant is the bits written beside it. -/
@[reducible] def bitsNamed : Named Bits where named _ _ {φ} bits := Scalar.ofBits φ bits

theorem body_bits : @Cert.Kernel.cc0_body Bits _ Cert.Kernel.Gen.facts = @Cert.KernelIdeal.cc0_body Bits _ bitsNamed Cert.KernelIdeal.Gen.facts := rfl

theorem defs₀_bits : @Cert.Kernel.defs₀ Bits _ Cert.Kernel.Gen.facts = @Cert.KernelIdeal.defs₀ Bits _ bitsNamed Cert.KernelIdeal.Gen.facts := by
  unfold Cert.Kernel.defs₀ Cert.KernelIdeal.defs₀
  congr 1
  funext x y
  rcases x with ⟨_ | n, h⟩
  · rcases y; rfl
  · exact absurd h (by omega)

set_option maxRecDepth 65536 in
theorem defs_bits : @Cert.Kernel.defs Bits _ Cert.Kernel.Gen.facts = @Cert.KernelIdeal.defs Bits _ bitsNamed Cert.KernelIdeal.Gen.facts := by
  unfold Cert.Kernel.defs Cert.KernelIdeal.defs
  rw [defs₀_bits]
  rfl

set_option maxRecDepth 65536 in
theorem main_bits : Cert.Kernel.main (F := Bits) = Cert.KernelIdeal.main (F := Bits) := rfl

set_option maxRecDepth 65536 in
/-- The kernel's frame, at the machine floats. -/
theorem frame_kernel : Cert.quiescent_Kernel (hKernel := Cert.Kernel.Gen.facts) := fun m g _ => by
  letI := bitsNamed
  have h := run_main (F := Bits) m g
  rw [← defs_bits] at h
  exact (θ_run (Cert.Kernel.defs (F := Bits)) _ _).mono (fun _ h => ⟨args_of_QC (F := Bits) m g h.1, h.2⟩) h

/-- The reference's frame. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run (Cert.ReferenceIdeal.defs (F := Ideal)) _ _).mono
    (fun r h => ⟨fun c => (h c).2, Idealize.ShloMosaic.sem_eq_zero_of_no_sems (by decide) r.2⟩) (Cert.ReferenceIdeal.Value.run (F := Ideal) m g)

/-- The named constant's value, as the claim states it. -/
theorem preserves : Cert.preserves_Kernel_KernelIdeal :=
  IdealRules.named_const.statement Cert.KernelIdeal.κ "log2e_inv_sqrt_d" .f32 0x3E0293EE#32 (((Real.log 2)⁻¹ * (Real.sqrt 128)⁻¹ : ℝ) : EReal) rfl

end Cert.RingAttn

end
-- ==== Proof.Reals.lean ====
/-
  The mathematics: softmax attention over 4096 keys, real queries and keys averaging values that may be infinite, the weights as powers of two with the folded
  constant, the shift by a row's maximum that cancels, and the sum over all keys cut into the eight half-blocks that a
  device meets.
-/
module

public import Mathlib.Analysis.SpecialFunctions.Pow.Real
public import Mathlib.Data.EReal.Operations
public import Mathlib.Logic.Equiv.Fin.Basic
public import Mathlib.Algebra.BigOperators.Fin
public import Mathlib.Algebra.BigOperators.Field
public import Mathlib.Algebra.BigOperators.Ring.Finset
public import Mathlib.Algebra.Order.BigOperators.Group.Finset
public import Mathlib.Tactic.FinCases
public import Mathlib.Tactic.Ring
public import Mathlib.Tactic.Abel
public import Mathlib.Tactic.FieldSimp

@[expose] public section

noncomputable section

namespace Cert.RingAttn

open scoped BigOperators

/-! ### Sums of reals inside the extended reals -/

/-- A finite sum of reals, taken among the extended reals, is the sum of the reals; -/
theorem coe_sum {ι : Type} (s : Finset ι) (f : ι → ℝ) : ∑ i ∈ s, (f i : EReal) = ((∑ i ∈ s, f i : ℝ) : EReal) :=
  (map_sum (⟨⟨Real.toEReal, EReal.coe_zero⟩, EReal.coe_add⟩ : ℝ →+ EReal) f s).symm
/-- a sum of products likewise. -/
theorem coe_dot {ι : Type} (s : Finset ι) (f g : ι → ℝ) :
    ∑ i ∈ s, (f i : EReal) * (g i : EReal) = ((∑ i ∈ s, f i * g i : ℝ) : EReal) := by
  rw [← coe_sum]; exact Finset.sum_congr rfl fun i _ => (EReal.coe_mul _ _).symm
/-- A row's maximum, folded from minus infinity over at least one real, is a real. -/
theorem fold_max_coe {n : ℕ} (f : Fin (n + 1) → ℝ) :
    ∃ M : ℝ, (Finset.univ : Finset (Fin (n + 1))).fold max (⊥ : EReal) (fun i => (f i : EReal)) = (M : EReal) := by
  have key : ∀ s : Finset (Fin (n + 1)), s.fold max (⊥ : EReal) (fun i => (f i : EReal)) = ⊥ ∧ s = ∅
      ∨ ∃ M : ℝ, s.fold max (⊥ : EReal) (fun i => (f i : EReal)) = (M : EReal) := fun s => by
    induction s using Finset.cons_induction with
    | empty => exact .inl ⟨rfl, rfl⟩
    | cons a s ha ih =>
      rw [Finset.fold_cons]
      rcases ih with ⟨h, -⟩ | ⟨M, h⟩
      · exact .inr ⟨f a, by rw [h]; exact max_eq_left bot_le⟩
      · exact .inr ⟨max (f a) M, by rw [h]; exact (EReal.coe_strictMono.monotone.map_max).symm⟩
  rcases key Finset.univ with ⟨-, h⟩ | h
  · exact absurd h (Finset.univ_nonempty).ne_empty
  · exact h

/-- A number times a real that is not negative spreads over a sum, whatever the summands. -/
theorem sum_mul_coe {ι : Type} (s : Finset ι) (f : ι → EReal) {c : ℝ} (hc : 0 ≤ c) : (∑ i ∈ s, f i) * (c : EReal) = ∑ i ∈ s, f i * (c : EReal) := by
  induction s using Finset.cons_induction with
  | empty => simp
  | cons a s ha ih =>
    rw [Finset.sum_cons, Finset.sum_cons, EReal.right_distrib_of_nonneg_of_ne_top (EReal.coe_nonneg.mpr hc) (EReal.coe_ne_top c), ih]

/-! ### Attention -/

/-- The constant folded into the queries: log₂ e over the root of the head dimension. -/
def scale : ℝ := (Real.log 2)⁻¹ * (Real.sqrt 128)⁻¹

/-- A query's score on a key. -/
def score (a b : Fin 128 → ℝ) : ℝ := (∑ d, a d * b d) / Real.sqrt 128

/-- Attention over `n` keys: the values averaged with weights the exponentials of the scores. -/
def attn {n : ℕ} (a : Fin 128 → ℝ) (k : Fin n → Fin 128 → ℝ) (v : Fin n → Fin 128 → EReal) (d : Fin 128) : EReal :=
  (∑ j, ((Real.exp (score a (k j)) : ℝ) : EReal) * v j d) * ((1 / ∑ j, Real.exp (score a (k j)) : ℝ) : EReal)

/-- Two to the product of the scaled query with the key is the exponential of the score. -/
theorem weight_eq (a b : Fin 128 → ℝ) : Real.rpow 2 (∑ d, a d * scale * b d) = Real.exp (score a b) := by
  have h2 : Real.log 2 ≠ 0 := (Real.log_pos (by norm_num)).ne'
  show (2 : ℝ) ^ (∑ d, a d * scale * b d) = _
  rw [Real.rpow_def_of_pos (by norm_num)]
  congr 1
  unfold score scale
  rw [Finset.mul_sum, Finset.sum_div]
  refine Finset.sum_congr rfl fun d _ => ?_
  rw [div_eq_mul_inv]
  calc Real.log 2 * (a d * ((Real.log 2)⁻¹ * (Real.sqrt 128)⁻¹) * b d)
      = (Real.log 2 * (Real.log 2)⁻¹) * (a d * b d * (Real.sqrt 128)⁻¹) := by ring
    _ = a d * b d * (Real.sqrt 128)⁻¹ := by rw [mul_inv_cancel₀ h2, one_mul]

/-- The sum of the weights is positive. -/
theorem sum_exp_pos {n : ℕ} (s : Fin (n + 1) → ℝ) : 0 < ∑ j, Real.exp (s j) :=
  Finset.sum_pos (fun _ _ => Real.exp_pos _) Finset.univ_nonempty

/-- Weights shifted by any number and divided by their sum average the values as the unshifted ones do. -/
theorem shifted {n : ℕ} (s : Fin (n + 1) → ℝ) (v : Fin (n + 1) → EReal) (M : ℝ) :
    ∑ j, ((Real.exp (s j - M) * (1 / ∑ i, Real.exp (s i - M)) : ℝ) : EReal) * v j
      = (∑ j, ((Real.exp (s j) : ℝ) : EReal) * v j) * ((1 / ∑ j, Real.exp (s j) : ℝ) : EReal) := by
  have hM : Real.exp (-M) ≠ 0 := (Real.exp_pos _).ne'
  have h0 := (sum_exp_pos s).ne'
  have he (j) : Real.exp (s j - M) = Real.exp (s j) * Real.exp (-M) := by rw [sub_eq_add_neg, Real.exp_add]
  rw [sum_mul_coe _ _ (one_div_nonneg.mpr (sum_exp_pos s).le)]
  refine Finset.sum_congr rfl fun j _ => ?_
  have e : Real.exp (s j - M) * (1 / ∑ i, Real.exp (s i - M)) = Real.exp (s j) * (1 / ∑ i, Real.exp (s i)) := by
    simp only [he]
    rw [← Finset.sum_mul]
    field_simp
  rw [e, EReal.coe_mul, mul_assoc, mul_assoc, mul_comm (v j)]

/-! ### The keys by device and half -/

/-- Row `r` of device `c`'s block, in the whole array; -/
def row (c : Fin 4) (r : Fin 1024) : Fin 4096 := ⟨c.val * 1024 + r.val, by omega⟩
/-- row `j` of half `h` of a block. -/
def half (h : Fin 2) (j : Fin 512) : Fin 1024 := ⟨h.val * 512 + j.val, by omega⟩

/-- A sum over half `h` of device `c`'s block. -/
def part4 {M : Type} [AddCommMonoid M] (f : Fin 4096 → M) (c : Fin 4) (h : Fin 2) : M := ∑ j, f (row c (half h j))

/-- A sum over all keys is the sum over devices and halves. -/
theorem sum_parts {M : Type} [AddCommMonoid M] (f : Fin 4096 → M) : ∑ i, f i = ∑ c, ∑ h, part4 f c h := by
  have h1 : ∑ i, f i = ∑ c, ∑ r, f (row c r) := by
    rw [← Equiv.sum_comp (finProdFinEquiv (m := 4) (n := 1024)) f, Fintype.sum_prod_type]
    refine Finset.sum_congr rfl fun c _ => Finset.sum_congr rfl fun r _ => congrArg f (Fin.ext ?_)
    show r.val + 1024 * c.val = c.val * 1024 + r.val
    omega
  rw [h1]
  refine Finset.sum_congr rfl fun c _ => ?_
  rw [← Equiv.sum_comp (finProdFinEquiv (m := 2) (n := 512)) fun r => f (row c r), Fintype.sum_prod_type]
  refine Finset.sum_congr rfl fun h _ => Finset.sum_congr rfl fun j _ => congrArg (fun r => f (row c r)) (Fin.ext ?_)
  show j.val + 512 * h.val = h.val * 512 + j.val
  omega

end Cert.RingAttn

end
-- ==== Proof.Blocks.lean ====
/-
  The kernel's arithmetic over the extended reals, block by block: what 512 keys and values add to the running
  denominator and numerator, and which 512 rows each step reads.
-/
module

public import proofs.«01_k».proof.Proof.Body
public import proofs.«01_k».proof.Proof.Reals
public import Idealize.ShloMosaic.PureOps.Ideal.Laws
public import Idealize.ShloMosaic.PureOps.IdealRules
public import Idealize.ShloMosaic.Lib.ValueIdx
public import Idealize.ShloMosaic.Lib.ValueLayout
public import Idealize.ShloMosaic.Lib.Pipeline.Value

@[expose] public section

noncomputable section

namespace Cert.RingAttn

open Cert.KernelIdeal Cert.KernelIdeal.Gen
open Idealize.ShloMosaic Idealize.ShloMosaic.TcCoe Idealize.ShloMosaic.ValueIdx
open scoped BigOperators

/-- A matrix as an array; a real matrix as an array of extended reals. -/
def arr2 {a b : ℕ} (f : Fin a → Fin b → EReal) : (⟨2, ![a, b]⟩ : Shape).Idx → EReal := fun i => f (i 0) (i 1)
def lift2 {a b : ℕ} (f : Fin a → Fin b → ℝ) : (⟨2, ![a, b]⟩ : Shape).Idx → EReal := fun i => ((f (i 0) (i 1) : ℝ) : EReal)

theorem arr2_ext {a b : ℕ} {x : (⟨2, ![a, b]⟩ : Shape).Idx → EReal} {f : Fin a → Fin b → EReal}
    (h : ∀ i j, x (ix2 i j) = f i j) : x = arr2 f := funext fun i => by
  rw [eq_ix2 i]; exact h _ _

theorem lift2_ext {a b : ℕ} {x : (⟨2, ![a, b]⟩ : Shape).Idx → EReal} {f : Fin a → Fin b → ℝ}
    (h : ∀ i j, x (ix2 i j) = ((f i j : ℝ) : EReal)) : x = lift2 f := funext fun i => by
  rw [eq_ix2 i]; exact h _ _

/-! ### The three operations a block of keys goes through -/

/-- The weights of 1024 scaled queries on 512 keys. -/
def wts (q : FVec Ideal S1024x128 .bf16) (k : FVec Ideal S512x128 .bf16) : FVec Ideal S1024x512 .bf16 :=
  exp2 (truncf .bf16 (matmul dot_S1024x128_S512x128_S1024x512_1_1_0_0_n_n none q k (constant S1024x512 .f32 0x00000000#32)) bitsLt_bf16_f32)
/-- Their sums added to a running denominator. -/
def addDen (l : FVec Ideal S1024x1 .f32) (e : FVec Ideal S1024x512 .bf16) : FVec Ideal S1024x1 .f32 :=
  addf l (shapeCast S1024x1 (multiReduction .add [1] S1024 (extf .f32 e bitsLt_bf16_f32) 0x00000000#32 reduces_S1024x512_S1024 (.inl rfl) rfl)
    shapeCasts_S1024_S1024x1)
/-- The values they weigh added to a running numerator. -/
def addNum (a : FVec Ideal S1024x128 .f32) (e : FVec Ideal S1024x512 .bf16) (v : FVec Ideal S512x128 .bf16) : FVec Ideal S1024x128 .f32 :=
  addf a (matmul dot_S1024x512_S512x128_S1024x128_1_0_0_1_n_n none e v (constant S1024x128 .f32 0x00000000#32))

/-- Queries times keys, at an entry: the sum over the head dimension. -/
theorem dotQK_apply (q : FVec Ideal S1024x128 .bf16) (k : FVec Ideal S512x128 .bf16) (i : Fin 1024) (j : Fin 512) :
    matmul dot_S1024x128_S512x128_S1024x512_1_1_0_0_n_n none q k (constant S1024x512 .f32 0x00000000#32) (ix2 i j)
      = ∑ d : Fin 128, (q (ix2 i d) : EReal) * k (ix2 j d) :=
  (Ideal.matmul_constant_zero_apply _ none q k (ix2 i j)).trans
    (Fintype.sum_equiv (contrEquiv1 dot_S1024x128_S512x128_S1024x512_1_1_0_0_n_n 128 rfl rfl) _ _ fun x =>
      congrArg₂ (fun (a b : EReal) => a * b) (congrArg q (funext fun a => by match a with | ⟨0, _⟩ => rfl | ⟨1, _⟩ => rfl))
        (congrArg k (funext fun a => by match a with | ⟨0, _⟩ => rfl | ⟨1, _⟩ => rfl)))
/-- Weights times values, at an entry: the sum over the keys. -/
theorem dotEV_apply (e : FVec Ideal S1024x512 .bf16) (v : FVec Ideal S512x128 .bf16) (i : Fin 1024) (d : Fin 128) :
    matmul dot_S1024x512_S512x128_S1024x128_1_0_0_1_n_n none e v (constant S1024x128 .f32 0x00000000#32) (ix2 i d)
      = ∑ j : Fin 512, (e (ix2 i j) : EReal) * v (ix2 j d) :=
  (Ideal.matmul_constant_zero_apply _ none e v (ix2 i d)).trans
    (Fintype.sum_equiv (contrEquiv1 dot_S1024x512_S512x128_S1024x128_1_0_0_1_n_n 512 rfl rfl) _ _ fun x =>
      congrArg₂ (fun (a b : EReal) => a * b) (congrArg e (funext fun a => by match a with | ⟨0, _⟩ => rfl | ⟨1, _⟩ => rfl))
        (congrArg v (funext fun a => by match a with | ⟨0, _⟩ => rfl | ⟨1, _⟩ => rfl)))
/-- A row's weights summed, at an entry. -/
theorem sumE_apply (e : FVec Ideal S1024x512 .f32) (i : Fin 1024) (u : Fin 1) :
    shapeCast S1024x1 (multiReduction .add [1] S1024 e 0x00000000#32 reduces_S1024x512_S1024 (.inl rfl) rfl) shapeCasts_S1024_S1024x1 (ix2 i u)
      = ∑ j : Fin 512, (e (ix2 i j) : EReal) :=
  (shapeCast_apply _ shapeCasts_S1024_S1024x1 (ix2 i u) (ix1 i) (by
    rw [Shape.rowMajor_val_two, Shape.rowMajor_val_one]; simp)).trans <|
  (Ideal.multiReduction_add_single e _ reduces_S1024x512_S1024 (.inl rfl) rfl (ix1 i)).trans
    (Finset.sum_congr rfl fun j _ => congrArg e (funext fun a => by match a with | ⟨0, _⟩ => rfl | ⟨1, _⟩ => rfl))

/-- On real blocks: the weights are powers of two; -/
theorem wts_lift (q : Fin 1024 → Fin 128 → ℝ) (k : Fin 512 → Fin 128 → ℝ) :
    wts (lift2 q) (lift2 k) = lift2 fun i j => Real.rpow 2 (∑ d, q i d * k j d) := lift2_ext fun i j =>
  (congrArg Ideal.exp2 ((dotQK_apply (lift2 q) (lift2 k) i j).trans (coe_dot _ (fun d => q i d) fun d => k j d))).trans (Ideal.exp2_coe _)
/-- the numerator gains the weighted values; -/
theorem addNum_lift (a : Fin 1024 → Fin 128 → EReal) (e : Fin 1024 → Fin 512 → ℝ) (v : Fin 512 → Fin 128 → EReal) :
    addNum (arr2 a) (lift2 e) (arr2 v) = arr2 fun i d => a i d + ∑ j, ((e i j : ℝ) : EReal) * v j d := arr2_ext fun i d =>
  congrArg (fun x : EReal => a i d + x) (dotEV_apply (lift2 e) (arr2 v) i d)
/-- the denominator gains the weights. -/
theorem addDen_lift (l : Fin 1024 → Fin 1 → ℝ) (e : Fin 1024 → Fin 512 → ℝ) :
    addDen (lift2 l) (lift2 e) = lift2 fun i u => l i u + ∑ j, e i j := lift2_ext fun i u =>
  (congrArg (fun x : EReal => ((l i u : ℝ) : EReal) + x) ((sumE_apply (lift2 e) i u).trans (coe_sum _ fun j => e i j))).trans
    (EReal.coe_add _ _).symm

/-! ### What each step reads -/

/-- The queries, scaled. -/
theorem pay5_lift (q : Fin 1024 → Fin 128 → ℝ) : k0_pay5 (F := Ideal) (lift2 q) = lift2 fun i d => q i d * scale := lift2_ext fun i d => by
  have hc : Named.named (F := Ideal) κ "log2e_inv_sqrt_d" (φ := .f32) 0x3E0293EE#32 = ((scale : ℝ) : EReal) :=
    IdealRules.named_const.ideal_named_scalar _ _ _ _ rfl
  have h : shapeCast S1024x128 (lift2 q) shapeCasts_S1024x128_S1024x128 = lift2 q := shapeCast_self _ _
  show (shapeCast S1024x128 (lift2 q) shapeCasts_S1024x128_S1024x128 (ix2 i d) : EReal) * Named.named (F := Ideal) κ "log2e_inv_sqrt_d" (φ := .f32) 0x3E0293EE#32 = _
  rw [h, hc]
  exact (EReal.coe_mul _ _).symm

theorem pay6_lift : k0_pay6 (F := Ideal) = lift2 fun _ _ => 0 := lift2_ext fun i u => Ideal.ofBits_zero_f32
theorem pay7_lift : k0_pay7 (F := Ideal) = arr2 fun _ _ => 0 := arr2_ext fun i u => Ideal.ofBits_zero_f32

theorem rows_lo_apply (f : S1024x128.Idx → Elt Ideal .f32) (j : Fin 512) (d : Fin 128) : rows rLo f (ix2 j d) = f (ix2 (half 0 j) d) :=
  congrArg f (funext fun a => Fin.ext (by match a with | ⟨0, _⟩ => simp [rows, half] | ⟨1, _⟩ => simp [rows, half]))
theorem rows_hi_apply (f : S1024x128.Idx → Elt Ideal .f32) (j : Fin 512) (d : Fin 128) : rows rHi f (ix2 j d) = f (ix2 (half 1 j) d) :=
  congrArg f (funext fun a => Fin.ext (by match a with | ⟨0, _⟩ => simp [rows, half] | ⟨1, _⟩ => simp [rows, half]))

theorem part_0lo_apply (f : S2x1024x128.Idx → Elt Ideal .bf16) (j : Fin 512) (d : Fin 128) :
    part p0Lo f (ix3 (0 : Fin 1) j d) = f (ix3 (0 : Fin 2) (half 0 j) d) :=
  congrArg f (funext fun a => Fin.ext (by
    match a with
    | ⟨0, _⟩ => rfl
    | ⟨1, _⟩ => show 0 + 1 * j.val = 0 * 512 + j.val; omega
    | ⟨2, _⟩ => show 0 + 1 * d.val = d.val; omega))
theorem part_0hi_apply (f : S2x1024x128.Idx → Elt Ideal .bf16) (j : Fin 512) (d : Fin 128) :
    part p0Hi f (ix3 (0 : Fin 1) j d) = f (ix3 (0 : Fin 2) (half 1 j) d) :=
  congrArg f (funext fun a => Fin.ext (by
    match a with
    | ⟨0, _⟩ => rfl
    | ⟨1, _⟩ => show 512 + 1 * j.val = 1 * 512 + j.val; omega
    | ⟨2, _⟩ => show 0 + 1 * d.val = d.val; omega))
theorem part_1lo_apply (f : S2x1024x128.Idx → Elt Ideal .bf16) (j : Fin 512) (d : Fin 128) :
    part p1Lo f (ix3 (0 : Fin 1) j d) = f (ix3 (1 : Fin 2) (half 0 j) d) :=
  congrArg f (funext fun a => Fin.ext (by
    match a with
    | ⟨0, _⟩ => rfl
    | ⟨1, _⟩ => show 0 + 1 * j.val = 0 * 512 + j.val; omega
    | ⟨2, _⟩ => show 0 + 1 * d.val = d.val; omega))
theorem part_1hi_apply (f : S2x1024x128.Idx → Elt Ideal .bf16) (j : Fin 512) (d : Fin 128) :
    part p1Hi f (ix3 (0 : Fin 1) j d) = f (ix3 (1 : Fin 2) (half 1 j) d) :=
  congrArg f (funext fun a => Fin.ext (by
    match a with
    | ⟨0, _⟩ => rfl
    | ⟨1, _⟩ => show 512 + 1 * j.val = 1 * 512 + j.val; omega
    | ⟨2, _⟩ => show 0 + 1 * d.val = d.val; omega))

/-- A block sent: its keys in the first plane, its values in the second. -/
def sent (k v : S1024x128.Idx → EReal) : S2x1024x128.Idx → Elt Ideal .bf16 := stack (F := Ideal) (k0_pay2 (F := Ideal) k) (k0_pay4 (k0_pay3 (F := Ideal) v))

theorem sent_zero (k v : S1024x128.Idx → EReal) (r : Fin 1024) (d : Fin 128) : sent k v (ix3 (0 : Fin 2) r d) = k (ix2 r d) := by
  have h : k0_pay2 (F := Ideal) k (ix3 (0 : Fin 1) r d) = k (ix2 r d) :=
    (shapeCast_ab_1ab_apply (truncf (F := Ideal) .bf16 (shapeCast S1024x128 k shapeCasts_S1024x128_S1024x128) bitsLt_bf16_f32)
      shapeCasts_S1024x128_S1x1024x128 0 r d).trans (congrFun (shapeCast_self k _) _)
  rw [← h]
  exact congrArg (k0_pay2 (F := Ideal) k) (funext fun a => by match a with | ⟨0, _⟩ => rfl | ⟨1, _⟩ => rfl | ⟨2, _⟩ => rfl)
theorem sent_one (k v : S1024x128.Idx → EReal) (r : Fin 1024) (d : Fin 128) : sent k v (ix3 (1 : Fin 2) r d) = v (ix2 r d) := by
  have h : k0_pay4 (k0_pay3 (F := Ideal) v) (ix3 (0 : Fin 1) r d) = v (ix2 r d) :=
    (shapeCast_ab_1ab_apply (truncf (F := Ideal) .bf16 (shapeCast S1024x128 v shapeCasts_S1024x128_S1024x128) bitsLt_bf16_f32)
      shapeCasts_S1024x128_S1x1024x128 0 r d).trans (congrFun (shapeCast_self v _) _)
  rw [← h]
  exact congrArg (k0_pay4 (k0_pay3 (F := Ideal) v)) (funext fun a => by match a with | ⟨0, _⟩ => rfl | ⟨1, _⟩ => rfl | ⟨2, _⟩ => rfl)

theorem pay8_eq (x : S512x128.Idx → EReal) : k0_pay8 (F := Ideal) x = x := shapeCast_self x _
theorem pay20_apply (x : S1x512x128.Idx → EReal) (j : Fin 512) (d : Fin 128) : k0_pay20 (F := Ideal) x (ix2 j d) = x (ix3 (0 : Fin 1) j d) :=
  shapeCast_1ab_ab_apply x shapeCasts_S1x512x128_S512x128 j d
theorem pay20_arr (x : S1x512x128.Idx → EReal) (f : Fin 512 → Fin 128 → EReal) (h : ∀ j d, x (ix3 (0 : Fin 1) j d) = f j d) :
    k0_pay20 (F := Ideal) x = arr2 f := arr2_ext fun j d => (pay20_apply x j d).trans (h j d)

/-- A half of a block, -/
def halfOf {α : Type} (h : Fin 2) (f : Fin 1024 → Fin 128 → α) : Fin 512 → Fin 128 → α := fun j => f (half h j)

/-- read from the device's own arrays, -/
theorem own_lo (f : Fin 1024 → Fin 128 → EReal) : k0_pay8 (F := Ideal) (rows rLo (arr2 f)) = arr2 (halfOf 0 f) :=
  (pay8_eq _).trans (arr2_ext fun j d => rows_lo_apply (arr2 f) j d)
theorem own_hi (f : Fin 1024 → Fin 128 → EReal) : k0_pay8 (F := Ideal) (rows rHi (arr2 f)) = arr2 (halfOf 1 f) :=
  (pay8_eq _).trans (arr2_ext fun j d => rows_hi_apply (arr2 f) j d)
theorem own_klo (f : Fin 1024 → Fin 128 → ℝ) : k0_pay8 (F := Ideal) (rows rLo (lift2 f)) = lift2 (halfOf 0 f) := own_lo fun i d => (f i d : EReal)
theorem own_khi (f : Fin 1024 → Fin 128 → ℝ) : k0_pay8 (F := Ideal) (rows rHi (lift2 f)) = lift2 (halfOf 1 f) := own_hi fun i d => (f i d : EReal)
/-- or from a block received. -/
theorem got_klo (k : Fin 1024 → Fin 128 → ℝ) (v : Fin 1024 → Fin 128 → EReal) :
    k0_pay20 (F := Ideal) (part (F := Ideal) p0Lo (sent (lift2 k) (arr2 v))) = lift2 (halfOf 0 k) :=
  pay20_arr (part (F := Ideal) p0Lo (sent (lift2 k) (arr2 v))) (fun j d => ((halfOf 0 k j d : ℝ) : EReal)) fun j d =>
    (part_0lo_apply (sent (lift2 k) (arr2 v)) j d).trans (sent_zero (lift2 k) (arr2 v) (half 0 j) d)
theorem got_khi (k : Fin 1024 → Fin 128 → ℝ) (v : Fin 1024 → Fin 128 → EReal) :
    k0_pay20 (F := Ideal) (part (F := Ideal) p0Hi (sent (lift2 k) (arr2 v))) = lift2 (halfOf 1 k) :=
  pay20_arr (part (F := Ideal) p0Hi (sent (lift2 k) (arr2 v))) (fun j d => ((halfOf 1 k j d : ℝ) : EReal)) fun j d =>
    (part_0hi_apply (sent (lift2 k) (arr2 v)) j d).trans (sent_zero (lift2 k) (arr2 v) (half 1 j) d)
theorem got_vlo (k : Fin 1024 → Fin 128 → ℝ) (v : Fin 1024 → Fin 128 → EReal) :
    k0_pay20 (F := Ideal) (part (F := Ideal) p1Lo (sent (lift2 k) (arr2 v))) = arr2 (halfOf 0 v) :=
  pay20_arr (part (F := Ideal) p1Lo (sent (lift2 k) (arr2 v))) (halfOf 0 v) fun j d =>
    (part_1lo_apply (sent (lift2 k) (arr2 v)) j d).trans (sent_one (lift2 k) (arr2 v) (half 0 j) d)
theorem got_vhi (k : Fin 1024 → Fin 128 → ℝ) (v : Fin 1024 → Fin 128 → EReal) :
    k0_pay20 (F := Ideal) (part (F := Ideal) p1Hi (sent (lift2 k) (arr2 v))) = arr2 (halfOf 1 v) :=
  pay20_arr (part (F := Ideal) p1Hi (sent (lift2 k) (arr2 v))) (halfOf 1 v) fun j d =>
    (part_1hi_apply (sent (lift2 k) (arr2 v)) j d).trans (sent_one (lift2 k) (arr2 v) (half 1 j) d)

/-! ### The result -/

section Chain
variable (q k v : S1024x128.Idx → EReal) (fl fr fd : S2x1024x128.Idx → EReal)

/-- The denominator, as eight steps; -/
theorem denOf_steps : denOf (F := Ideal) q k fl fr fd =
    addDen (addDen (addDen (addDen (addDen (addDen (addDen (addDen k0_pay6
      (wts (k0_pay5 q) (k0_pay8 (rows rLo k)))) (wts (k0_pay5 q) (k0_pay8 (rows rHi k))))
      (wts (k0_pay5 q) (k0_pay20 (part p0Lo fl)))) (wts (k0_pay5 q) (k0_pay20 (part p0Hi fr))))
      (wts (k0_pay5 q) (k0_pay20 (part p0Hi fl)))) (wts (k0_pay5 q) (k0_pay20 (part p0Lo fr))))
      (wts (k0_pay5 q) (k0_pay20 (part p0Lo fd)))) (wts (k0_pay5 q) (k0_pay20 (part p0Hi fd))) := rfl
/-- the numerator likewise. -/
theorem numOf_steps : numOf (F := Ideal) q k v fl fr fd =
    addNum (addNum (addNum (addNum (addNum (addNum (addNum (addNum k0_pay7
      (wts (k0_pay5 q) (k0_pay8 (rows rLo k))) (k0_pay8 (rows rLo v))) (wts (k0_pay5 q) (k0_pay8 (rows rHi k))) (k0_pay8 (rows rHi v)))
      (wts (k0_pay5 q) (k0_pay20 (part p0Lo fl))) (k0_pay20 (part p1Lo fl))) (wts (k0_pay5 q) (k0_pay20 (part p0Hi fr))) (k0_pay20 (part p1Hi fr)))
      (wts (k0_pay5 q) (k0_pay20 (part p0Hi fl))) (k0_pay20 (part p1Hi fl))) (wts (k0_pay5 q) (k0_pay20 (part p0Lo fr))) (k0_pay20 (part p1Lo fr)))
      (wts (k0_pay5 q) (k0_pay20 (part p0Lo fd))) (k0_pay20 (part p1Lo fd))) (wts (k0_pay5 q) (k0_pay20 (part p0Hi fd))) (k0_pay20 (part p1Hi fd)) := rfl
end Chain

/-- The weights of scaled queries against keys are the exponentials of the scores. -/
theorem wts_exp (q : Fin 1024 → Fin 128 → ℝ) (k : Fin 512 → Fin 128 → ℝ) :
    wts (k0_pay5 (F := Ideal) (lift2 q)) (lift2 k) = lift2 fun i j => Real.exp (score (q i) (k j)) := by
  rw [pay5_lift, wts_lift]
  exact congrArg lift2 (funext fun i => funext fun j => weight_eq (q i) (k j))

/-- The stored block, at an entry: numerator over denominator. -/
theorem pay1_lift (l : Fin 1024 → Fin 1 → ℝ) (a : Fin 1024 → Fin 128 → EReal) (hl : ∀ i, l i 0 ≠ 0) :
    k0_pay1 (F := Ideal) (lift2 l) (arr2 a) = arr2 fun i d => a i d * ((1 / l i 0 : ℝ) : EReal) := arr2_ext fun i d => by
  have e : broadcastTo S1024x128 (lift2 l) broadcasts_S1024x1_S1024x128 (ix2 i d) = ((l i 0 : ℝ) : EReal) :=
    broadcastTo_apply (lift2 l) broadcasts_S1024x1_S1024x128 (ix2 i d) (ix2 i (0 : Fin 1)) (fun a => by match a with | ⟨0, _⟩ => rfl | ⟨1, _⟩ => rfl)
  have h : k0_pay1 (F := Ideal) (lift2 l) (arr2 a) (ix2 i d)
      = Ideal.div (a i d) (broadcastTo S1024x128 (lift2 l) broadcasts_S1024x1_S1024x128 (ix2 i d)) := rfl
  rw [h, e, Ideal.div_coe (hl i)]

section Whole
variable (q k kl kr kd : Fin 1024 → Fin 128 → ℝ) (v vl vr vd : Fin 1024 → Fin 128 → EReal)

/-- One half block's weights, summed; -/
def den1 (h : Fin 2) (k : Fin 1024 → Fin 128 → ℝ) (i : Fin 1024) : ℝ := ∑ j, Real.exp (score (q i) (halfOf h k j))
/-- and weighing its values. -/
def num1 (h : Fin 2) (k : Fin 1024 → Fin 128 → ℝ) (v : Fin 1024 → Fin 128 → EReal) (i : Fin 1024) (d : Fin 128) : EReal :=
  ∑ j, ((Real.exp (score (q i) (halfOf h k j)) : ℝ) : EReal) * halfOf h v j d

/-- The denominator: the weights of the eight halves, in the order in which they are met; -/
theorem denOf_lift : denOf (F := Ideal) (lift2 q) (lift2 k) (sent (lift2 kl) (arr2 vl)) (sent (lift2 kr) (arr2 vr)) (sent (lift2 kd) (arr2 vd))
    = lift2 fun i _ => 0 + den1 q 0 k i + den1 q 1 k i + den1 q 0 kl i + den1 q 1 kr i + den1 q 1 kl i + den1 q 0 kr i + den1 q 0 kd i + den1 q 1 kd i := by
  rw [denOf_steps, own_klo, own_khi, got_klo, got_khi, got_khi, got_klo, got_klo, got_khi, pay6_lift]
  simp only [wts_exp, addDen_lift]
  rfl
/-- the numerator: their weighted values. -/
theorem numOf_lift : numOf (F := Ideal) (lift2 q) (lift2 k) (arr2 v) (sent (lift2 kl) (arr2 vl)) (sent (lift2 kr) (arr2 vr)) (sent (lift2 kd) (arr2 vd))
    = arr2 fun i d => 0 + num1 q 0 k v i d + num1 q 1 k v i d + num1 q 0 kl vl i d + num1 q 1 kr vr i d + num1 q 1 kl vl i d + num1 q 0 kr vr i d
      + num1 q 0 kd vd i d + num1 q 1 kd vd i d := by
  rw [numOf_steps, own_klo, own_khi, own_lo, own_hi, got_klo, got_khi, got_khi, got_klo, got_klo, got_khi, got_vlo, got_vhi, got_vhi, got_vlo, got_vlo, got_vhi, pay7_lift]
  simp only [wts_exp, addNum_lift]
  rfl
end Whole

/-- A device's block of an array of 4096 rows. -/
def blk {α : Type} (c : Fin 4) (f : Fin 4096 → Fin 128 → α) : Fin 1024 → Fin 128 → α := fun r => f (row c r)

section Ring
variable (Q K : Fin 4096 → Fin 128 → ℝ) (V : Fin 4096 → Fin 128 → EReal)

/-- The eight halves a device meets are all the keys, each once. -/
theorem ring_sum {M : Type} [AddCommMonoid M] (f : Fin 4096 → M) (c : Dev nD) :
    0 + part4 f c 0 + part4 f c 1 + part4 f (prv c) 0 + part4 f (nxt c) 1 + part4 f (prv c) 1 + part4 f (nxt c) 0 + part4 f (nxt (nxt c)) 0
      + part4 f (nxt (nxt c)) 1 = ∑ i, f i := by
  rw [sum_parts, Fin.sum_univ_four]
  simp only [Fin.sum_univ_two]
  have h : ∀ c : Dev nD, (c = 0 ∨ c = 1 ∨ c = 2 ∨ c = 3) := by decide
  have p0 : prv 0 = 3 := rfl
  have p1 : prv 1 = 0 := rfl
  have p2 : prv 2 = 1 := rfl
  have p3 : prv 3 = 2 := rfl
  have n0 : nxt 0 = 1 := rfl
  have n1 : nxt 1 = 2 := rfl
  have n2 : nxt 2 = 3 := rfl
  have n3 : nxt 3 = 0 := rfl
  rcases h c with rfl | rfl | rfl | rfl <;> simp only [p0, p1, p2, p3, n0, n1, n2, n3] <;> abel

/-- What device `c` stores, its own and its peers' queries and keys real: attention of its queries over all keys. -/
theorem outOf_ring (c : Dev nD) : outOf (F := Ideal) (lift2 (blk c Q)) (lift2 (blk c K)) (arr2 (blk c V))
    (sent (lift2 (blk (prv c) K)) (arr2 (blk (prv c) V))) (sent (lift2 (blk (nxt c) K)) (arr2 (blk (nxt c) V)))
    (sent (lift2 (blk (nxt (nxt c)) K)) (arr2 (blk (nxt (nxt c)) V)))
    = arr2 fun i d => attn (Q (row c i)) K V d := by
  have hd := denOf_lift (blk c Q) (blk c K) (blk (prv c) K) (blk (nxt c) K) (blk (nxt (nxt c)) K) (blk (prv c) V) (blk (nxt c) V) (blk (nxt (nxt c)) V)
  have hn := numOf_lift (blk c Q) (blk c K) (blk (prv c) K) (blk (nxt c) K) (blk (nxt (nxt c)) K) (blk c V) (blk (prv c) V) (blk (nxt c) V) (blk (nxt (nxt c)) V)
  have sd : ∀ i : Fin 1024, _ = ∑ n, Real.exp (score (Q (row c i)) (K n)) := fun i => ring_sum (fun n => Real.exp (score (Q (row c i)) (K n))) c
  have sn : ∀ (i : Fin 1024) (d : Fin 128), _ = ∑ n, ((Real.exp (score (Q (row c i)) (K n)) : ℝ) : EReal) * V n d := fun i d =>
    ring_sum (fun n => ((Real.exp (score (Q (row c i)) (K n)) : ℝ) : EReal) * V n d) c
  have hd' := hd.trans (congrArg lift2 (funext fun i => funext fun _ => sd i))
  have hn' := hn.trans (congrArg arr2 (funext fun i => funext fun d => sn i d))
  refine (congrArg₂ (k0_pay1 (F := Ideal)) hd' hn').trans (pay1_lift _ _ fun i => (sum_exp_pos (n := 4095) _).ne')
end Ring

end Cert.RingAttn

end
-- ==== Proof.RefValue.lean ====
/-
  The reference's result on real queries and keys: attention of each query over all 4096 keys.
-/
module

public import proofs.«01_k».proof.Proof.Blocks
public import proofs.«01_k».proof.Proof.Gen.ReferenceIdeal.Run
public import Idealize.ShloMosaic.Lib.IdealHost

@[expose] public section

noncomputable section

namespace Cert.RingAttn

open Cert.ReferenceIdeal Cert.ReferenceIdeal.Gen
open Idealize.ShloMosaic Idealize.ShloMosaic.TcCoe Idealize.ShloMosaic.ValueIdx

/-! ### The reference's term, in parts -/

/-- The scores: queries times keys over the root of the head dimension. -/
def scoresR (q k : FVec Ideal S4096x128 .f32) : FVec Ideal S4096x4096 .f32 :=
  Host.divf (Host.dotGeneral dot_S4096x128_S128x4096_S4096x4096_1_0_0_1_n_n none q (transpose S128x4096 [1, 0] k transposes_S4096x128_S128x4096_1_0))
    (broadcastInDim S4096x4096 ![] bcast_S_S4096x4096 (id (Host.sqrt (constant S_ .f32 0x43000000#32))))
/-- A number per row, spread along the row. -/
def spread (x : FVec Ideal S4096 .f32) : FVec Ideal S4096x4096 .f32 :=
  broadcastInDim S4096x4096 ![0, 1] bcast_S4096x1_S4096x4096_0_1 (broadcastInDim S4096x1 ![0] bcast_S4096_S4096x1_0 x)
/-- Each row's largest entry. -/
def rowMax (s : FVec Ideal S4096x4096 .f32) : FVec Ideal S4096 .f32 :=
  Host.reduce FloatOps.maximumf s (constant S_ .f32 0xFF800000#32) reducesTo_S4096x4096_S4096_d1 h_S_
/-- Each row's sum. -/
def rowSum (s : FVec Ideal S4096x4096 .f32) : FVec Ideal S4096 .f32 :=
  Host.reduceAdd s (constant S_ .f32 0x00000000#32) reducesTo_S4096x4096_S4096_d1 h_S_
/-- The exponentials of the scores less their row's largest. -/
def expsR (s : FVec Ideal S4096x4096 .f32) : FVec Ideal S4096x4096 .f32 := Host.exp (subf s (spread (rowMax s)))
/-- The result. -/
def refOut (q k v : FVec Ideal S4096x128 .f32) : FVec Ideal S4096x128 .f32 :=
  Host.dotGeneral dot_S4096x4096_S4096x128_S4096x128_1_0_0_1_n_n none
    (Host.divf (expsR (scoresR q k)) (spread (rowSum (expsR (scoresR q k))))) v

/-! ### Each part, on real numbers -/

theorem ofBits_128 : Ideal.ofBits .f32 0x43000000#32 = ((128 : ℝ) : EReal) := by
  simp [Ideal.ofBits, Ideal.ieee, -EReal.coe_mul]; norm_num
theorem ofBits_bot : Ideal.ofBits .f32 0xFF800000#32 = ⊥ := by simp [Ideal.ofBits, Ideal.ieee]

theorem root_apply (j : S4096x4096.Idx) :
    broadcastInDim S4096x4096 ![] bcast_S_S4096x4096 (id (Host.sqrt (F := Ideal) (constant S_ .f32 0x43000000#32))) j = ((Real.sqrt 128 : ℝ) : EReal) := by
  have e : Host.sqrt (F := Ideal) (constant S_ .f32 0x43000000#32) ix0 = Ideal.sqrt (Ideal.ofBits .f32 0x43000000#32) := rfl
  refine (broadcastInDim_scalar_apply bcast_S_S4096x4096 (Host.sqrt (F := Ideal) (constant S_ .f32 0x43000000#32)) j).trans (e.trans ?_)
  rw [ofBits_128, Ideal.sqrt_coe, if_neg (by norm_num)]

theorem refQK_apply (q : FVec Ideal S4096x128 .f32) (k : FVec Ideal S128x4096 .f32) (i j : Fin 4096) :
    Host.dotGeneral dot_S4096x128_S128x4096_S4096x4096_1_0_0_1_n_n none q k (ix2 i j) = ∑ d : Fin 128, (q (ix2 i d) : EReal) * k (ix2 d j) :=
  (Ideal.dotGeneral_apply dot_S4096x128_S128x4096_S4096x4096_1_0_0_1_n_n none _ q k (ix2 i j)).trans
    (Fintype.sum_equiv (contrEquiv1 dot_S4096x128_S128x4096_S4096x4096_1_0_0_1_n_n 128 rfl rfl) _ _ fun x =>
      congrArg₂ (fun (a b : EReal) => a * b) (congrArg q (funext fun a => by match a with | ⟨0, _⟩ => rfl | ⟨1, _⟩ => rfl))
        (congrArg k (funext fun a => by match a with | ⟨0, _⟩ => rfl | ⟨1, _⟩ => rfl)))
theorem refPV_apply (p : FVec Ideal S4096x4096 .f32) (v : FVec Ideal S4096x128 .f32) (i : Fin 4096) (d : Fin 128) :
    Host.dotGeneral dot_S4096x4096_S4096x128_S4096x128_1_0_0_1_n_n none p v (ix2 i d) = ∑ j : Fin 4096, (p (ix2 i j) : EReal) * v (ix2 j d) :=
  (Ideal.dotGeneral_apply dot_S4096x4096_S4096x128_S4096x128_1_0_0_1_n_n none _ p v (ix2 i d)).trans
    (Fintype.sum_equiv (contrEquiv1 dot_S4096x4096_S4096x128_S4096x128_1_0_0_1_n_n 4096 rfl rfl) _ _ fun x =>
      congrArg₂ (fun (a b : EReal) => a * b) (congrArg p (funext fun a => by match a with | ⟨0, _⟩ => rfl | ⟨1, _⟩ => rfl))
        (congrArg v (funext fun a => by match a with | ⟨0, _⟩ => rfl | ⟨1, _⟩ => rfl)))

theorem sqrt_ne : Real.sqrt 128 ≠ 0 := (Real.sqrt_pos.mpr (by norm_num)).ne'

theorem scoresR_lift (Q K : Fin 4096 → Fin 128 → ℝ) : scoresR (lift2 Q) (lift2 K) = lift2 fun i j => score (Q i) (K j) := lift2_ext fun i j => by
  have e : scoresR (lift2 Q) (lift2 K) (ix2 i j)
      = Ideal.div (Host.dotGeneral (F := Ideal) (φ₁ := .f32) (φ₂ := .f32) dot_S4096x128_S128x4096_S4096x4096_1_0_0_1_n_n none (lift2 Q)
          (transpose S128x4096 [1, 0] (lift2 K) transposes_S4096x128_S128x4096_1_0) (ix2 i j))
        (broadcastInDim S4096x4096 ![] bcast_S_S4096x4096 (id (Host.sqrt (F := Ideal) (constant S_ .f32 0x43000000#32))) (ix2 i j)) := rfl
  have d : Host.dotGeneral (F := Ideal) (φ₁ := .f32) (φ₂ := .f32) dot_S4096x128_S128x4096_S4096x4096_1_0_0_1_n_n none (lift2 Q)
      (transpose S128x4096 [1, 0] (lift2 K) transposes_S4096x128_S128x4096_1_0) (ix2 i j) = ((∑ d, Q i d * K j d : ℝ) : EReal) := by
    refine (refQK_apply _ _ i j).trans (Eq.trans (Finset.sum_congr rfl fun d _ => ?_) (coe_dot Finset.univ (fun d => Q i d) fun d => K j d))
    exact congrArg (fun x : EReal => ((Q i d : ℝ) : EReal) * x) (transpose_ix2_apply (lift2 K) transposes_S4096x128_S128x4096_1_0 d j)
  rw [e, d, root_apply, Ideal.div_coe sqrt_ne, ← EReal.coe_mul, mul_one_div]
  rfl

theorem spread_apply (x : FVec Ideal S4096 .f32) (i j : Fin 4096) : spread x (ix2 i j) = x (ix1 i) := by
  unfold spread
  exact (broadcastInDim_apply _ _ _ _ (ix2 i (0 : Fin 1)) (fun a => by match a with | ⟨0, _⟩ => rfl | ⟨1, _⟩ => rfl)).trans
    (broadcastInDim_apply _ _ _ _ (ix1 i) (fun a => by match a with | ⟨0, _⟩ => rfl))

theorem sum_exp_ne (s : Fin 4096 → ℝ) : ∑ j, Real.exp (s j) ≠ 0 := (sum_exp_pos (n := 4095) s).ne'

theorem reduces_row : S4096x4096.Reduces [1] S4096 := by decide

theorem rowMax_apply (s : Fin 4096 → Fin 4096 → ℝ) (i : Fin 4096) : ∃ M : ℝ, rowMax (lift2 s) (ix1 i) = (M : EReal) := by
  obtain ⟨M, h⟩ := fold_max_coe (n := 4095) (s i)
  refine ⟨M, Eq.trans ?_ h⟩
  refine (Host.reduce_eq_fold_single (max : EReal → EReal → EReal) (lift2 s) (constant (F := Ideal) S_ .f32 0xFF800000#32)
    reducesTo_S4096x4096_S4096_d1 reduces_row h_S_ (ix1 i)).trans ?_
  have e : constant (F := Ideal) S_ .f32 0xFF800000#32 (Shape.Idx.first h_S_) = (⊥ : EReal) := ofBits_bot
  rw [e]
  rfl

theorem rowSum_apply (s : Fin 4096 → Fin 4096 → ℝ) (i : Fin 4096) : rowSum (lift2 s) (ix1 i) = ((∑ j, s i j : ℝ) : EReal) := by
  refine (Ideal.hostReduceAdd_single reducesTo_S4096x4096_S4096_d1 reduces_row (lift2 s) (constant (F := Ideal) S_ .f32 0x00000000#32 (Shape.Idx.first h_S_)) (ix1 i)).trans ?_
  have e : constant (F := Ideal) S_ .f32 0x00000000#32 (Shape.Idx.first h_S_) = (0 : EReal) := Ideal.ofBits_zero_f32
  rw [e]
  exact (zero_add _).trans (coe_sum Finset.univ fun j => s i j)

theorem expsR_apply (s : FVec Ideal S4096x4096 .f32) (j : S4096x4096.Idx) : expsR s j = Ideal.exp (s j - spread (rowMax s) j) := rfl

theorem expsR_lift (s : Fin 4096 → Fin 4096 → ℝ) : ∃ M : Fin 4096 → ℝ, expsR (lift2 s) = lift2 fun i j => Real.exp (s i j - M i) := by
  choose M hM using rowMax_apply s
  refine ⟨M, lift2_ext fun i j => ?_⟩
  have e : lift2 s (ix2 i j) = ((s i j : ℝ) : EReal) := rfl
  rw [expsR_apply, spread_apply, hM, e, ← EReal.coe_sub, Ideal.exp_coe]

/-- The reference's result, queries and keys real: attention of each query over all keys. -/
theorem refOut_lift (Q K : Fin 4096 → Fin 128 → ℝ) (V : Fin 4096 → Fin 128 → EReal) :
    refOut (lift2 Q) (lift2 K) (arr2 V) = arr2 fun i d => attn (Q i) K V d := by
  obtain ⟨M, hM⟩ := expsR_lift fun i j => score (Q i) (K j)
  have hp : Host.divf (F := Ideal) (φ := .f32) (expsR (scoresR (lift2 Q) (lift2 K))) (spread (rowSum (expsR (scoresR (lift2 Q) (lift2 K)))))
      = lift2 fun i j => Real.exp (score (Q i) (K j) - M i) * (1 / ∑ n, Real.exp (score (Q i) (K n) - M i)) := by
    rw [scoresR_lift, hM]
    refine lift2_ext fun i j => ?_
    refine (hostDivf_apply _ _ _).trans ?_
    rw [spread_apply, rowSum_apply, Ideal.div_coe (sum_exp_ne fun n => score (Q i) (K n) - M i)]
    exact (EReal.coe_mul _ _).symm
  refine arr2_ext fun i d => ?_
  refine (refPV_apply _ _ i d).trans ?_
  rw [hp]
  exact shifted (n := 4095) (fun j => score (Q i) (K j)) (fun j => V j d) (M i)

end Cert.RingAttn

end
-- ==== Proof.Value.lean ====
/-
  The kernel's result is the reference's: the precondition read back, the arrays as matrices, and the two runs put
  side by side.
-/
module

public import proofs.«01_k».proof.Proof.Frames
public import proofs.«01_k».proof.Proof.RefValue
public import Idealize.ShloMosaic.Lib.Layout
public import Idealize.ShloMosaic.Lib.ReduceAll
public import Idealize.ShloMosaic.Lib.Pipeline.ValueKit.Geometry

@[expose] public section

noncomputable section

namespace Cert.RingAttn

open Idealize.ShloMosaic Idealize.ShloMosaic.TcCoe Idealize.ShloMosaic.ValueIdx Idealize.SL.Sem

/-! ### The arrays the kernel reads and writes -/

section Arrays
open Cert.KernelIdeal Cert.KernelIdeal.Gen
variable {F : FTy → Type} [FloatOps F] [Named F] (m : (ℓ : Loc nD τ sig) → Buf (Elt F) ℓ) (ρ : Dev nD → PrngReg)

/-- The block staged is the whole argument; -/
theorem xq_eq (c : Dev nD) : xq m ρ c = m ((c.tc : Thread nD τ).loc main_arg0) := funext fun i =>
  congrArg (m ((c.tc : Thread nD τ).loc main_arg0)) (funext fun a => Fin.ext (by
    match a with
    | ⟨0, _⟩ => show 0 * 1024 + 1 * (i 0).val = (i 0).val; omega
    | ⟨1, _⟩ => show 0 * 128 + 1 * (i 1).val = (i 1).val; omega))
theorem xk_eq (c : Dev nD) : xk m ρ c = m ((c.tc : Thread nD τ).loc main_arg1) := funext fun i =>
  congrArg (m ((c.tc : Thread nD τ).loc main_arg1)) (funext fun a => Fin.ext (by
    match a with
    | ⟨0, _⟩ => show 0 * 1024 + 1 * (i 0).val = (i 0).val; omega
    | ⟨1, _⟩ => show 0 * 128 + 1 * (i 1).val = (i 1).val; omega))
theorem xv_eq (c : Dev nD) : xv m ρ c = m ((c.tc : Thread nD τ).loc main_arg2) := funext fun i =>
  congrArg (m ((c.tc : Thread nD τ).loc main_arg2)) (funext fun a => Fin.ext (by
    match a with
    | ⟨0, _⟩ => show 0 * 1024 + 1 * (i 0).val = (i 0).val; omega
    | ⟨1, _⟩ => show 0 * 128 + 1 * (i 1).val = (i 1).val; omega))

/-- the block written back is the whole result. -/
theorem final_out (c : Dev nD) : finalA m ρ c (3 : Fin 4) = outAt m ρ c :=
  (dats m ρ 0 c).arrAt_eq_of_after_last (3 : Fin 4) t₀ (by decide +kernel) (outAt m ρ c) (fun j => rfl)

end Arrays

/-! ### The precondition -/

/-- The side conditions of the precondition on a device's arrays. -/
instance preFacts : Cert.Pre_finite_KernelIdeal.Facts where
  bcast_S_S1024x128 := by decide
  reducesTo_S1024x128_S_d0_1 := by decide
  h_S_ := by decide
/-- The side conditions of the precondition on whole arrays. -/
instance preFactsRef : Cert.Pre_finite_ReferenceIdeal.Facts where
  bcast_S_S4096x128 := by decide
  reducesTo_S4096x128_S_d0_1 := by decide
  h_S_ := by decide

theorem ofBits_top : Ideal.ofBits .f32 0x7F800000#32 = ⊤ := by simp [Ideal.ofBits, Ideal.ieee]

/-- A number of absolute value below infinity is real. -/
theorem real_of_cmp {x : EReal} (h : Ideal.cmp .olt (max x (-x)) (Ideal.ofBits .f32 0x7F800000#32) = 1#1) : ∃ r : ℝ, x = (r : EReal) := by
  rw [ofBits_top] at h
  have h' : max x (-x) < ⊤ := by
    by_contra hn
    have e : Ideal.cmp .olt (max x (-x)) ⊤ = 0#1 := by unfold Ideal.cmp; simp [hn]
    rw [e] at h; exact absurd h (by decide)
  obtain ⟨h1, h2⟩ := max_lt_iff.mp h'
  induction x with
  | bot => exact absurd h2 (by simp)
  | top => exact absurd h1 (by simp)
  | coe r => exact ⟨r, rfl⟩

open Cert.Pre_finite_KernelIdeal in
/-- One array's part of the precondition: every entry is real. -/
theorem all_real (x : FVec Ideal S1024x128 .f32)
    (h : Host.reduce IntOp.andi (cmpf .olt (Host.absf x) (broadcastInDim S1024x128 ![] preFacts.bcast_S_S1024x128 (constant (F := Ideal) S_ .f32 0x7F800000#32)))
      (constantI S_ 1 1#1) preFacts.reducesTo_S1024x128_S_d0_1 preFacts.h_S_ ix0 = 1#1) (i : S1024x128.Idx) : ∃ r : ℝ, x i = (r : EReal) := by
  haveI : Subsingleton S_.Idx := ⟨fun a b => funext fun k => k.elim0⟩
  have e := Host.reduce_andi_all _ _ _ _ ix0 h i
  refine real_of_cmp ?_
  have b : broadcastInDim S1024x128 ![] preFacts.bcast_S_S1024x128 (constant (F := Ideal) S_ .f32 0x7F800000#32) i = Ideal.ofBits .f32 0x7F800000#32 :=
    broadcastInDim_scalar_apply preFacts.bcast_S_S1024x128 (constant (F := Ideal) S_ .f32 0x7F800000#32) i
  rw [← b]
  exact e

/-- The precondition on one device's arrays: every entry of the queries and keys is real. -/
theorem reals_of_pre (x y z : FVec Ideal Cert.Pre_finite_KernelIdeal.S1024x128 .f32)
    (h : Cert.Pre_finite_KernelIdeal.fn (F := Ideal) x y z = fun _ => 1#1) :
    (∀ i, ∃ r : ℝ, x i = (r : EReal)) ∧ ∀ i, ∃ r : ℝ, y i = (r : EReal) := by
  obtain ⟨hx, hy⟩ := IntOp.andi_eq_one.1 (congrFun h ix0)
  exact ⟨all_real x hx, all_real y hy⟩

/-! ### Whole arrays and their blocks -/

/-- An array all of whose blocks are real is a real matrix. -/
theorem real_of_blocks (A : (⟨2, ![4096, 128]⟩ : Shape).Idx → EReal)
    (h : ∀ (c : Fin 4) i, ∃ r : ℝ, Layout.block ⟨2, ![1024, 128]⟩ ⟨2, ![4096, 128]⟩ 0 4 c A (by decide) i = (r : EReal)) :
    ∃ f : Fin 4096 → Fin 128 → ℝ, A = lift2 f := by
  have hr : ∀ (n : Fin 4096) (d : Fin 128), ∃ r : ℝ, A (ix2 n d) = (r : EReal) := fun n d => by
    have hc : n.val / 1024 < 4 := by omega
    have hm : n.val % 1024 < 1024 := Nat.mod_lt _ (by decide)
    obtain ⟨r, e⟩ := h ⟨n.val / 1024, hc⟩ (ix2 ⟨n.val % 1024, hm⟩ d)
    refine ⟨r, Eq.trans (congrArg A (funext fun a => Fin.ext ?_)) e⟩
    match a with
    | ⟨0, _⟩ => show n.val = n.val / 1024 * 1024 + n.val % 1024; omega
    | ⟨1, _⟩ => rfl
  choose f hf using hr
  exact ⟨f, lift2_ext hf⟩

/-- Any array is a matrix. -/
theorem matrix (A : (⟨2, ![4096, 128]⟩ : Shape).Idx → EReal) : ∃ f : Fin 4096 → Fin 128 → EReal, A = arr2 f :=
  ⟨fun n d => A (ix2 n d), arr2_ext fun _ _ => rfl⟩

/-- A block of a matrix is the matrix's block. -/
theorem block_arr (c : Fin 4) (f : Fin 4096 → Fin 128 → EReal) :
    Layout.block ⟨2, ![1024, 128]⟩ ⟨2, ![4096, 128]⟩ 0 4 c (arr2 f) (by decide) = arr2 (blk c f) := arr2_ext fun _ _ => rfl
theorem block_lift (c : Fin 4) (f : Fin 4096 → Fin 128 → ℝ) :
    Layout.block ⟨2, ![1024, 128]⟩ ⟨2, ![4096, 128]⟩ 0 4 c (lift2 f) (by decide) = lift2 (blk c f) := block_arr c fun i d => (f i d : EReal)

/-! ### The two runs -/

section Runs
open Cert.KernelIdeal Cert.KernelIdeal.Gen
variable (m : (ℓ : Loc nD τ sig) → Buf (Elt Ideal) ℓ) (ρ : Dev nD → PrngReg) (Q K : Fin 4096 → Fin 128 → ℝ) (V : Fin 4096 → Fin 128 → EReal)

/-- From blocks of three matrices, the queries and keys real, each device ends with its block of the attention of all queries over all keys. -/
theorem outAt_ring (hq : ∀ c : Dev nD, m ((c.tc : Thread nD τ).loc main_arg0) = lift2 (blk c Q))
    (hk : ∀ c : Dev nD, m ((c.tc : Thread nD τ).loc main_arg1) = lift2 (blk c K))
    (hv : ∀ c : Dev nD, m ((c.tc : Thread nD τ).loc main_arg2) = arr2 (blk c V)) (c : Dev nD) :
    outAt m ρ c = arr2 fun i d => attn (Q (row c i)) K V d := by
  have eq : ∀ c, xq m ρ c = lift2 (blk c Q) := fun c => (xq_eq m ρ c).trans (hq c)
  have ek : ∀ c, xk m ρ c = lift2 (blk c K) := fun c => (xk_eq m ρ c).trans (hk c)
  have ev : ∀ c, xv m ρ c = arr2 (blk c V) := fun c => (xv_eq m ρ c).trans (hv c)
  have es : ∀ c, snd m ρ c = sent (lift2 (blk c K)) (arr2 (blk c V)) := fun c => by unfold snd sent; rw [ek, ev]
  unfold outAt
  rw [eq, ek, ev, es, es, es]
  exact outOf_ring Q K V c

end Runs

/-- From finite queries and keys both programs run and leave their arguments as they were, and each device's result is its block of
    the reference's result, at the ideal floats. -/
theorem algebraic : Cert.algebraic_KernelIdeal_ReferenceIdeal_pre_finite_KernelIdeal := by
  intro m g m' g' hpre hin
  have hp := fun c => reals_of_pre _ _ _ (hpre c)
  obtain ⟨Q, hQ⟩ := real_of_blocks _ fun c i => by rw [← (hin c).1]; exact (hp c).1 i
  obtain ⟨K, hK⟩ := real_of_blocks _ fun c i => by rw [← (hin c).2.1]; exact (hp c).2 i
  obtain ⟨V, hV⟩ := matrix (m' (((0 : Dev Cert.ReferenceIdeal.nD).tc : Thread Cert.ReferenceIdeal.nD Cert.ReferenceIdeal.τ).loc Cert.ReferenceIdeal.main_arg2))
  have eq := fun c => (hin c).1.trans ((congrArg (fun A => Layout.block ⟨2, ![1024, 128]⟩ ⟨2, ![4096, 128]⟩ 0 4 c A (by decide)) hQ).trans (block_lift c Q))
  have ek := fun c => (hin c).2.1.trans ((congrArg (fun A => Layout.block ⟨2, ![1024, 128]⟩ ⟨2, ![4096, 128]⟩ 0 4 c A (by decide)) hK).trans (block_lift c K))
  have ev := fun c => (hin c).2.2.trans ((congrArg (fun A => Layout.block ⟨2, ![1024, 128]⟩ ⟨2, ![4096, 128]⟩ 0 4 c A (by decide)) hV).trans (block_arr c V))
  refine ⟨arr2 fun n d => attn (Q n) K V d, ?_, ?_⟩
  · refine (θ_run (Cert.KernelIdeal.defs (F := Ideal)) _ _).mono (fun r h c => ?_) (run_main (F := Ideal) m g)
    have hout := (h.1 c (3 : Fin 4)).trans ((final_out m g c).trans (outAt_ring m g Q K V eq ek ev c))
    exact ⟨hout.trans (block_arr c fun n d => attn (Q n) K V d).symm, args_of_QC m g h.1 c⟩
  · refine (θ_run (Cert.ReferenceIdeal.defs (F := Ideal)) _ _).mono (fun r h => ?_) (Cert.ReferenceIdeal.Value.run (F := Ideal) m' g')
    obtain ⟨hv, ha⟩ := h 0
    have e := refOut_lift Q K V
    rw [← hQ, ← hK, ← hV] at e
    exact ⟨hv.trans e, ha⟩

end Cert.RingAttn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.RingAttn.preFacts, Cert.RingAttn.preFactsRef,
    Cert.RingAttn.frame_kernel,
    fun m g _ => Cert.RingAttn.frame_kernelIdeal m g,
    fun m g _ => Cert.RingAttn.frame_kernelIdeal m g,
    fun m g _ => Cert.RingAttn.frame_reference m g,
    fun m g _ => Cert.RingAttn.frame_reference m g,
    Cert.RingAttn.preserves,
    Cert.RingAttn.algebraic⟩

end Cert.Proof

end
